-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_precondition [hPre_precondition : Cert.Pre_precondition.Facts] (m : (ℓ : Loc Cert.KernelIdeal.nD Cert.KernelIdeal.τ Cert.KernelIdeal.sig) → Buf (Elt Ideal) ℓ) : Prop :=
  ∀ c : Dev Cert.KernelIdeal.nD,
    (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_precondition [hPre_precondition : Cert.Pre_precondition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_precondition [hKernelIdeal : Cert.KernelIdeal.Facts] [hPre_precondition : Cert.Pre_precondition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_precondition m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_precondition [hReferenceIdeal : Cert.ReferenceIdeal.Facts] [hPre_precondition : Cert.Pre_precondition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_precondition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_precondition [hKernelIdeal : Cert.KernelIdeal.Facts] [hReferenceIdeal : Cert.ReferenceIdeal.Facts] [hPre_precondition : Cert.Pre_precondition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_precondition m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_precondition : Cert.Pre_precondition.Facts),
    quiescent_Kernel (hKernel := hKernel)
    ∧ quiescent_KernelIdeal (hKernelIdeal := hKernelIdeal)
    ∧ quiescent_KernelIdeal_pre_precondition (hKernelIdeal := hKernelIdeal) (hPre_precondition := hPre_precondition)
    ∧ quiescent_ReferenceIdeal (hReferenceIdeal := hReferenceIdeal)
    ∧ quiescent_ReferenceIdeal_pre_precondition (hReferenceIdeal := hReferenceIdeal) (hPre_precondition := hPre_precondition)
    ∧ preserves_Kernel_KernelIdeal
    ∧ algebraic_KernelIdeal_ReferenceIdeal_pre_precondition (hKernelIdeal := hKernelIdeal) (hReferenceIdeal := hReferenceIdeal) (hPre_precondition := hPre_precondition)
-- ==== Pre_precondition.lean ====
abbrev S2x896x24x160 : Shape := ⟨4, ![2, 896, 24, 160]⟩
abbrev S2x7x24 : Shape := ⟨3, ![2, 7, 24]⟩
abbrev S2x896x8x160 : Shape := ⟨4, ![2, 896, 8, 160]⟩
abbrev S2x7x8 : Shape := ⟨3, ![2, 7, 8]⟩
abbrev S2x8 : Shape := ⟨2, ![2, 8]⟩
abbrev S_ : Shape := ⟨0, ![]⟩

class Facts : Prop where
  bcast_S_S2x7x24 : S_.BroadcastsInDim S2x7x24 (![] : Fin 0 → Fin S2x7x24.rank)
  reducesTo_S2x7x24_S_d0_1_2 : S2x7x24.ReducesTo [0, 1, 2] S_
  h_S_ : 0 < S_.numel
  bcast_S_S2x7x8 : S_.BroadcastsInDim S2x7x8 (![] : Fin 0 → Fin S2x7x8.rank)
  reducesTo_S2x7x8_S_d0_1_2 : S2x7x8.ReducesTo [0, 1, 2] S_

variable [Facts]

def fn {F : FTy → Type} [FloatOps F] (main_arg0 : FVec F S2x896x24x160 .fp8e4m3) (main_arg1 : FVec F S2x7x24 .f32) (main_arg2 : FVec F S2x896x8x160 .fp8e4m3) (main_arg3 : FVec F S2x7x8 .f32) (main_arg4 : FVec F S2x896x8x160 .fp8e4m3) (main_arg5 : FVec F S2x8 .f32) : IVec S_ 1 :=
  let main_cst : FVec F S_ .f32 := constant S_ .f32 0x00000000#32
  let main_v0 : FVec F S2x7x24 .f32 := broadcastInDim S2x7x24 ![] bcast_S_S2x7x24 main_cst
  let main_v1 : IVec S2x7x24 1 := cmpf .ogt main_arg1 main_v0
  let main_c : IVec S_ 1 := constantI S_ 1 1#1
  let main_v2 : IVec S_ 1 := (fun x v => Host.reduce IntOp.andi x v reducesTo_S2x7x24_S_d0_1_2 h_S_) main_v1 main_c
  let main_cst_0 : FVec F S_ .f32 := constant S_ .f32 0x00000000#32
  let main_v3 : FVec F S2x7x8 .f32 := broadcastInDim S2x7x8 ![] bcast_S_S2x7x8 main_cst_0
  let main_v4 : IVec S2x7x8 1 := cmpf .ogt main_arg3 main_v3
  let main_c_1 : IVec S_ 1 := constantI S_ 1 1#1
  let main_v5 : IVec S_ 1 := (fun x v => Host.reduce IntOp.andi x v reducesTo_S2x7x8_S_d0_1_2 h_S_) main_v4 main_c_1
  let main_v6 : IVec S_ 1 := andi main_v2 main_v5
  main_v6
-- ==== Kernel.lean ====
abbrev S2x896x24x160 : Shape := ⟨4, ![2, 896, 24, 160]⟩
abbrev S2x7x24 : Shape := ⟨3, ![2, 7, 24]⟩
abbrev S2x896x8x160 : Shape := ⟨4, ![2, 896, 8, 160]⟩
abbrev S2x7x8 : Shape := ⟨3, ![2, 7, 8]⟩
abbrev S2x8 : Shape := ⟨2, ![2, 8]⟩
abbrev S2x896x8x3x160 : Shape := ⟨5, ![2, 896, 8, 3, 160]⟩
abbrev S2x8x896x3x160 : Shape := ⟨5, ![2, 8, 896, 3, 160]⟩
abbrev S2x8x2688x160 : Shape := ⟨4, ![2, 8, 2688, 160]⟩
abbrev S2x8x896x160 : Shape := ⟨4, ![2, 8, 896, 160]⟩
abbrev S2x8x160x896 : Shape := ⟨4, ![2, 8, 160, 896]⟩
abbrev S2x7x8x1x1x3 : Shape := ⟨6, ![2, 7, 8, 1, 1, 3]⟩
abbrev S2x8x7x1x1x3 : Shape := ⟨6, ![2, 8, 7, 1, 1, 3]⟩
abbrev S2x8x7x1x128x3 : Shape := ⟨6, ![2, 8, 7, 1, 128, 3]⟩
abbrev S2x8x7x1x384 : Shape := ⟨5, ![2, 8, 7, 1, 384]⟩
abbrev S2x8x7 : Shape := ⟨3, ![2, 8, 7]⟩
abbrev S2x8x7x160x384 : Shape := ⟨5, ![2, 8, 7, 160, 384]⟩
abbrev S1x1x384x160 : Shape := ⟨4, ![1, 1, 384, 160]⟩
abbrev S1x1x896x160 : Shape := ⟨4, ![1, 1, 896, 160]⟩
abbrev S1x1x160x896 : Shape := ⟨4, ![1, 1, 160, 896]⟩
abbrev S1x1x1x1x384 : Shape := ⟨5, ![1, 1, 1, 1, 384]⟩
abbrev S1x1x1x160x384 : Shape := ⟨5, ![1, 1, 1, 160, 384]⟩
abbrev S7x128x384 : Shape := ⟨3, ![7, 128, 384]⟩
abbrev S384x160 : Shape := ⟨2, ![384, 160]⟩
abbrev S1x384 : Shape := ⟨2, ![1, 384]⟩
abbrev S1x1x128x160 : Shape := ⟨4, ![1, 1, 128, 160]⟩
abbrev S128x160 : Shape := ⟨2, ![128, 160]⟩
abbrev S128x384 : Shape := ⟨2, ![128, 384]⟩
abbrev S1x128x384 : Shape := ⟨3, ![1, 128, 384]⟩
abbrev S1x1x1 : Shape := ⟨3, ![1, 1, 1]⟩
abbrev S384 : Shape := ⟨1, ![384]⟩
abbrev S8x384 : Shape := ⟨2, ![8, 384]⟩
abbrev S160x384 : Shape := ⟨2, ![160, 384]⟩
abbrev S16x8x384 : Shape := ⟨3, ![16, 8, 384]⟩
abbrev S1x1x160x128 : Shape := ⟨4, ![1, 1, 160, 128]⟩
abbrev S160x128 : Shape := ⟨2, ![160, 128]⟩
abbrev S1x1 : Shape := ⟨2, ![1, 1]⟩
abbrev S256x384 : Shape := ⟨2, ![256, 384]⟩
abbrev S1x1x160x256 : Shape := ⟨4, ![1, 1, 160, 256]⟩
abbrev S160x256 : Shape := ⟨2, ![160, 256]⟩
abbrev S2x8x7x160x128x3 : Shape := ⟨6, ![2, 8, 7, 160, 128, 3]⟩
abbrev S2x7x128x8x3x160 : Shape := ⟨6, ![2, 7, 128, 8, 3, 160]⟩
abbrev S2x8x7x128x3 : Shape := ⟨5, ![2, 8, 7, 128, 3]⟩
abbrev S2x7x128x8x3 : Shape := ⟨5, ![2, 7, 128, 8, 3]⟩
abbrev S2x896x24 : Shape := ⟨3, ![2, 896, 24]⟩

abbrev nBuf : Space → Nat
  | .hbm => 25
  | .vmem => 13
  | .smem => 2
  | _ => 0

abbrev bufTy : (tb : Table) → Fin (tcTables nBuf tb) → BufTy
  | .hbm, ⟨0, _⟩ => ⟨S2x896x24x160, .fp8e4m3⟩
  | .hbm, ⟨1, _⟩ => ⟨S2x7x24, .f32⟩
  | .hbm, ⟨2, _⟩ => ⟨S2x896x8x160, .fp8e4m3⟩
  | .hbm, ⟨3, _⟩ => ⟨S2x7x8, .f32⟩
  | .hbm, ⟨4, _⟩ => ⟨S2x896x8x160, .fp8e4m3⟩
  | .hbm, ⟨5, _⟩ => ⟨S2x8, .f32⟩
  | .hbm, ⟨6, _⟩ => ⟨S2x896x8x3x160, .fp8e4m3⟩
  | .hbm, ⟨7, _⟩ => ⟨S2x8x896x3x160, .fp8e4m3⟩
  | .hbm, ⟨8, _⟩ => ⟨S2x8x2688x160, .fp8e4m3⟩
  | .hbm, ⟨9, _⟩ => ⟨S2x8x896x160, .fp8e4m3⟩
  | .hbm, ⟨10, _⟩ => ⟨S2x8x160x896, .fp8e4m3⟩
  | .hbm, ⟨11, _⟩ => ⟨S2x7x8x1x1x3, .f32⟩
  | .hbm, ⟨12, _⟩ => ⟨S2x8x7x1x1x3, .f32⟩
  | .hbm, ⟨13, _⟩ => ⟨S2x8x7x1x128x3, .f32⟩
  | .hbm, ⟨14, _⟩ => ⟨S2x8x7x1x384, .f32⟩
  | .hbm, ⟨15, _⟩ => ⟨S2x8x7, .f32⟩
  | .hbm, ⟨16, _⟩ => ⟨S2x8x7x160x384, .f32⟩
  | .hbm, ⟨17, _⟩ => ⟨S2x8x7x1x384, .f32⟩
  | .hbm, ⟨18, _⟩ => ⟨S2x8x7x160x128x3, .f32⟩
  | .hbm, ⟨19, _⟩ => ⟨S2x7x128x8x3x160, .f32⟩
  | .hbm, ⟨20, _⟩ => ⟨S2x896x24x160, .f32⟩
  | .hbm, ⟨21, _⟩ => ⟨S2x896x24x160, .bf16⟩
  | .hbm, ⟨22, _⟩ => ⟨S2x8x7x128x3, .f32⟩
  | .hbm, ⟨23, _⟩ => ⟨S2x7x128x8x3, .f32⟩
  | .hbm, ⟨24, _⟩ => ⟨S2x896x24, .f32⟩
  | .local _ .vmem, ⟨0, _⟩ => ⟨S1x1x384x160, .fp8e4m3⟩
  | .local _ .vmem, ⟨1, _⟩ => ⟨S1x1x384x160, .fp8e4m3⟩
  | .local _ .vmem, ⟨2, _⟩ => ⟨S1x1x896x160, .fp8e4m3⟩
  | .local _ .vmem, ⟨3, _⟩ => ⟨S1x1x896x160, .fp8e4m3⟩
  | .local _ .vmem, ⟨4, _⟩ => ⟨S1x1x160x896, .fp8e4m3⟩
  | .local _ .vmem, ⟨5, _⟩ => ⟨S1x1x160x896, .fp8e4m3⟩
  | .local _ .vmem, ⟨6, _⟩ => ⟨S1x1x1x1x384, .f32⟩
  | .local _ .vmem, ⟨7, _⟩ => ⟨S1x1x1x1x384, .f32⟩
  | .local _ .vmem, ⟨8, _⟩ => ⟨S1x1x1x160x384, .f32⟩
  | .local _ .vmem, ⟨9, _⟩ => ⟨S1x1x1x160x384, .f32⟩
  | .local _ .vmem, ⟨10, _⟩ => ⟨S1x1x1x1x384, .f32⟩
  | .local _ .vmem, ⟨11, _⟩ => ⟨S1x1x1x1x384, .f32⟩
  | .local _ .vmem, ⟨12, _⟩ => ⟨S7x128x384, .f32⟩
  | .local _ .smem, ⟨0, _⟩ => ⟨S2x8x7, .f32⟩
  | .local _ .smem, ⟨1, _⟩ => ⟨S2x8, .f32⟩
  | _, _ => ⟨S2x896x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 8, 7], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v38 : Index := Scalar.indexCast arg0
  let arg1 : BitVec 32 := BitVec.ofNat 32 (i 1).val
  let v39 : Index := Scalar.indexCast arg1
  let c0_24 : Index := 0#32
  ![v38.toNat, v39.toNat, 0]
def k0_off2 (i : grid0.Coords) : Fin 2 → Nat :=
  let arg0 : BitVec 32 := BitVec.ofNat 32 (i 0).val
  let v78 : Index := Scalar.indexCast arg0
  let arg1 : BitVec 32 := BitVec.ofNat 32 (i 1).val
  let v79 : Index := Scalar.indexCast arg1
  ![v78.toNat, v79.toNat]
def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg0 : BitVec 32 := BitVec.ofNat 32 (i 0).val
  let v31 : Index := Scalar.indexCast arg0
  let arg1 : BitVec 32 := BitVec.ofNat 32 (i 1).val
  let v32 : Index := Scalar.indexCast arg1
  let c0_22 : Index := 0#32
  ![v31.toNat, v32.toNat, 0]
def k0_off4 (i : grid0.Coords) : Fin 3 → Nat :=
  let arg0 : BitVec 32 := BitVec.ofNat 32 (i 0).val
  let v56 : Index := Scalar.indexCast arg0
  let arg1 : BitVec 32 := BitVec.ofNat 32 (i 1).val
  let v57 : Index := Scalar.indexCast arg1
  let c1_34 : Index := 1#32
  ![v56.toNat, v57.toNat, 1]
def k0_off5 (i : grid0.Coords) : Fin 2 → Nat :=
  let arg0 : BitVec 32 := BitVec.ofNat 32 (i 0).val
  let v111 : Index := Scalar.indexCast arg0
  let arg1 : BitVec 32 := BitVec.ofNat 32 (i 1).val
  let v112 : Index := Scalar.indexCast arg1
  ![v111.toNat, v112.toNat]
def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_off6 (i : grid0.Coords) : Fin 3 → Nat :=
  let arg0 : BitVec 32 := BitVec.ofNat 32 (i 0).val
  let v31 : Index := Scalar.indexCast arg0
  let arg1 : BitVec 32 := BitVec.ofNat 32 (i 1).val
  let v32 : Index := Scalar.indexCast arg1
  let c0_22 : Index := 0#32
  ![v31.toNat, v32.toNat, 0]
def k0_off7 (i : grid0.Coords) : Fin 3 → Nat :=
  let arg0 : BitVec 32 := BitVec.ofNat 32 (i 0).val
  let v49 : Index := Scalar.indexCast arg0
  let arg1 : BitVec 32 := BitVec.ofNat 32 (i 1).val
  let v50 : Index := Scalar.indexCast arg1
  let c1_32 : Index := 1#32
  ![v49.toNat, v50.toNat, 1]
def k0_off8 (i : grid0.Coords) : Fin 3 → Nat :=
  let arg0 : BitVec 32 := BitVec.ofNat 32 (i 0).val
  let v75 : Index := Scalar.indexCast arg0
  let arg1 : BitVec 32 := BitVec.ofNat 32 (i 1).val
  let v76 : Index := Scalar.indexCast arg1
  let c2_44 : Index := 2#32
  ![v75.toNat, v76.toNat, 2]
def k0_off9 (i : grid0.Coords) : Fin 2 → Nat :=
  let arg0 : BitVec 32 := BitVec.ofNat 32 (i 0).val
  let v147 : Index := Scalar.indexCast arg0
  let arg1 : BitVec 32 := BitVec.ofNat 32 (i 1).val
  let v148 : Index := Scalar.indexCast arg1
  ![v147.toNat, v148.toNat]
def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def k0_off10 (i : grid0.Coords) : Fin 3 → Nat :=
  let arg0 : BitVec 32 := BitVec.ofNat 32 (i 0).val
  let v31 : Index := Scalar.indexCast arg0
  let arg1 : BitVec 32 := BitVec.ofNat 32 (i 1).val
  let v32 : Index := Scalar.indexCast arg1
  let c0_22 : Index := 0#32
  ![v31.toNat, v32.toNat, 0]
def k0_off11 (i : grid0.Coords) : Fin 3 → Nat :=
  let arg0 : BitVec 32 := BitVec.ofNat 32 (i 0).val
  let v49 : Index := Scalar.indexCast arg0
  let arg1 : BitVec 32 := BitVec.ofNat 32 (i 1).val
  let v50 : Index := Scalar.indexCast arg1
  let c1_32 : Index := 1#32
  ![v49.toNat, v50.toNat, 1]
def k0_off12 (i : grid0.Coords) : Fin 3 → Nat :=
  let arg0 : BitVec 32 := BitVec.ofNat 32 (i 0).val
  let v68 : Index := Scalar.indexCast arg0
  let arg1 : BitVec 32 := BitVec.ofNat 32 (i 1).val
  let v69 : Index := Scalar.indexCast arg1
  let c2_42 : Index := 2#32
  ![v68.toNat, v69.toNat, 2]
def k0_off13 (i : grid0.Coords) : Fin 3 → Nat :=
  let arg0 : BitVec 32 := BitVec.ofNat 32 (i 0).val
  let v94 : Index := Scalar.indexCast arg0
  let arg1 : BitVec 32 := BitVec.ofNat 32 (i 1).val
  let v95 : Index := Scalar.indexCast arg1
  let c3_54 : Index := 3#32
  ![v94.toNat, v95.toNat, 3]
def k0_off14 (i : grid0.Coords) : Fin 2 → Nat :=
  let arg0 : BitVec 32 := BitVec.ofNat 32 (i 0).val
  let v180 : Index := Scalar.indexCast arg0
  let arg1 : BitVec 32 := BitVec.ofNat 32 (i 1).val
  let v181 : Index := Scalar.indexCast arg1
  ![v180.toNat, v181.toNat]
def k0_cond5 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_4 : BitVec 32 := 0#32
  let v14 : BitVec 1 := Scalar.cmpi .ne v13 c0_i32_4
  v14

def k0_off15 (i : grid0.Coords) : Fin 3 → Nat :=
  let arg0 : BitVec 32 := BitVec.ofNat 32 (i 0).val
  let v31 : Index := Scalar.indexCast arg0
  let arg1 : BitVec 32 := BitVec.ofNat 32 (i 1).val
  let v32 : Index := Scalar.indexCast arg1
  let c0_22 : Index := 0#32
  ![v31.toNat, v32.toNat, 0]
def k0_off16 (i : grid0.Coords) : Fin 3 → Nat :=
  let arg0 : BitVec 32 := BitVec.ofNat 32 (i 0).val
  let v49 : Index := Scalar.indexCast arg0
  let arg1 : BitVec 32 := BitVec.ofNat 32 (i 1).val
  let v50 : Index := Scalar.indexCast arg1
  let c1_32 : Index := 1#32
  ![v49.toNat, v50.toNat, 1]
def k0_off17 (i : grid0.Coords) : Fin 3 → Nat :=
  let arg0 : BitVec 32 := BitVec.ofNat 32 (i 0).val
  let v68 : Index := Scalar.indexCast arg0
  let arg1 : BitVec 32 := BitVec.ofNat 32 (i 1).val
  let v69 : Index := Scalar.indexCast arg1
  let c2_42 : Index := 2#32
  ![v68.toNat, v69.toNat, 2]
def k0_off18 (i : grid0.Coords) : Fin 3 → Nat :=
  let arg0 : BitVec 32 := BitVec.ofNat 32 (i 0).val
  let v87 : Index := Scalar.indexCast arg0
  let arg1 : BitVec 32 := BitVec.ofNat 32 (i 1).val
  let v88 : Index := Scalar.indexCast arg1
  let c3_52 : Index := 3#32
  ![v87.toNat, v88.toNat, 3]
def k0_off19 (i : grid0.Coords) : Fin 3 → Nat :=
  let arg0 : BitVec 32 := BitVec.ofNat 32 (i 0).val
  let v113 : Index := Scalar.indexCast arg0
  let arg1 : BitVec 32 := BitVec.ofNat 32 (i 1).val
  let v114 : Index := Scalar.indexCast arg1
  let c4_64 : Index := 4#32
  ![v113.toNat, v114.toNat, 4]
def k0_off20 (i : grid0.Coords) : Fin 2 → Nat :=
  let arg0 : BitVec 32 := BitVec.ofNat 32 (i 0).val
  let v216 : Index := Scalar.indexCast arg0
  let arg1 : BitVec 32 := BitVec.ofNat 32 (i 1).val
  let v217 : Index := Scalar.indexCast arg1
  ![v216.toNat, v217.toNat]
def k0_cond6 (i : grid0.Coords) : BitVec 1 :=
  let arg2 : BitVec 32 := BitVec.ofNat 32 (i 2).val
  let c5_i32 : BitVec 32 := 5#32
  let v15 : BitVec 1 := Scalar.cmpi .eq arg2 c5_i32
  let v16 : BitVec 32 := Scalar.extui v15
  let c0_i32_5 : BitVec 32 := 0#32
  let v17 : BitVec 1 := Scalar.cmpi .ne v16 c0_i32_5
  v17

def k0_off21 (i : grid0.Coords) : Fin 3 → Nat :=
  let arg0 : BitVec 32 := BitVec.ofNat 32 (i 0).val
  let v31 : Index := Scalar.indexCast arg0
  let arg1 : BitVec 32 := BitVec.ofNat 32 (i 1).val
  let v32 : Index := Scalar.indexCast arg1
  let c0_22 : Index := 0#32
  ![v31.toNat, v32.toNat, 0]
def k0_off22 (i : grid0.Coords) : Fin 3 → Nat :=
  let arg0 : BitVec 32 := BitVec.ofNat 32 (i 0).val
  let v49 : Index := Scalar.indexCast arg0
  let arg1 : BitVec 32 := BitVec.ofNat 32 (i 1).val
  let v50 : Index := Scalar.indexCast arg1
  let c1_32 : Index := 1#32
  ![v49.toNat, v50.toNat, 1]
def k0_off23 (i : grid0.Coords) : Fin 3 → Nat :=
  let arg0 : BitVec 32 := BitVec.ofNat 32 (i 0).val
  let v68 : Index := Scalar.indexCast arg0
  let arg1 : BitVec 32 := BitVec.ofNat 32 (i 1).val
  let v69 : Index := Scalar.indexCast arg1
  let c2_42 : Index := 2#32
  ![v68.toNat, v69.toNat, 2]
def k0_off24 (i : grid0.Coords) : Fin 3 → Nat :=
  let arg0 : BitVec 32 := BitVec.ofNat 32 (i 0).val
  let v87 : Index := Scalar.indexCast arg0
  let arg1 : BitVec 32 := BitVec.ofNat 32 (i 1).val
  let v88 : Index := Scalar.indexCast arg1
  let c3_52 : Index := 3#32
  ![v87.toNat, v88.toNat, 3]
def k0_off25 (i : grid0.Coords) : Fin 3 → Nat :=
  let arg0 : BitVec 32 := BitVec.ofNat 32 (i 0).val
  let v106 : Index := Scalar.indexCast arg0
  let arg1 : BitVec 32 := BitVec.ofNat 32 (i 1).val
  let v107 : Index := Scalar.indexCast arg1
  let c4_62 : Index := 4#32
  ![v106.toNat, v107.toNat, 4]
def k0_off26 (i : grid0.Coords) : Fin 3 → Nat :=
  let arg0 : BitVec 32 := BitVec.ofNat 32 (i 0).val
  let v132 : Index := Scalar.indexCast arg0
  let arg1 : BitVec 32 := BitVec.ofNat 32 (i 1).val
  let v133 : Index := Scalar.indexCast arg1
  let c5_74 : Index := 5#32
  ![v132.toNat, v133.toNat, 5]
def k0_off27 (i : grid0.Coords) : Fin 2 → Nat :=
  let arg0 : BitVec 32 := BitVec.ofNat 32 (i 0).val
  let v249 : Index := Scalar.indexCast arg0
  let arg1 : BitVec 32 := BitVec.ofNat 32 (i 1).val
  let v250 : Index := Scalar.indexCast arg1
  ![v249.toNat, v250.toNat]
def k0_cond7 (i : grid0.Coords) : BitVec 1 :=
  let arg2 : BitVec 32 := BitVec.ofNat 32 (i 2).val
  let c6_i32 : BitVec 32 := 6#32
  let v18 : BitVec 1 := Scalar.cmpi .eq arg2 c6_i32
  let v19 : BitVec 32 := Scalar.extui v18
  let c0_i32_6 : BitVec 32 := 0#32
  let v20 : BitVec 1 := Scalar.cmpi .ne v19 c0_i32_6
  v20

def k0_off28 (i : grid0.Coords) : Fin 3 → Nat :=
  let arg0 : BitVec 32 := BitVec.ofNat 32 (i 0).val
  let v31 : Index := Scalar.indexCast arg0
  let arg1 : BitVec 32 := BitVec.ofNat 32 (i 1).val
  let v32 : Index := Scalar.indexCast arg1
  let c0_22 : Index := 0#32
  ![v31.toNat, v32.toNat, 0]
def k0_off29 (i : grid0.Coords) : Fin 3 → Nat :=
  let arg0 : BitVec 32 := BitVec.ofNat 32 (i 0).val
  let v49 : Index := Scalar.indexCast arg0
  let arg1 : BitVec 32 := BitVec.ofNat 32 (i 1).val
  let v50 : Index := Scalar.indexCast arg1
  let c1_32 : Index := 1#32
  ![v49.toNat, v50.toNat, 1]
def k0_off30 (i : grid0.Coords) : Fin 3 → Nat :=
  let arg0 : BitVec 32 := BitVec.ofNat 32 (i 0).val
  let v68 : Index := Scalar.indexCast arg0
  let arg1 : BitVec 32 := BitVec.ofNat 32 (i 1).val
  let v69 : Index := Scalar.indexCast arg1
  let c2_42 : Index := 2#32
  ![v68.toNat, v69.toNat, 2]
def k0_off31 (i : grid0.Coords) : Fin 3 → Nat :=
  let arg0 : BitVec 32 := BitVec.ofNat 32 (i 0).val
  let v87 : Index := Scalar.indexCast arg0
  let arg1 : BitVec 32 := BitVec.ofNat 32 (i 1).val
  let v88 : Index := Scalar.indexCast arg1
  let c3_52 : Index := 3#32
  ![v87.toNat, v88.toNat, 3]
def k0_off32 (i : grid0.Coords) : Fin 3 → Nat :=
  let arg0 : BitVec 32 := BitVec.ofNat 32 (i 0).val
  let v106 : Index := Scalar.indexCast arg0
  let arg1 : BitVec 32 := BitVec.ofNat 32 (i 1).val
  let v107 : Index := Scalar.indexCast arg1
  let c4_62 : Index := 4#32
  ![v106.toNat, v107.toNat, 4]
def k0_off33 (i : grid0.Coords) : Fin 3 → Nat :=
  let arg0 : BitVec 32 := BitVec.ofNat 32 (i 0).val
  let v125 : Index := Scalar.indexCast arg0
  let arg1 : BitVec 32 := BitVec.ofNat 32 (i 1).val
  let v126 : Index := Scalar.indexCast arg1
  let c5_72 : Index := 5#32
  ![v125.toNat, v126.toNat, 5]
def k0_off34 (i : grid0.Coords) : Fin 3 → Nat :=
  let arg0 : BitVec 32 := BitVec.ofNat 32 (i 0).val
  let v151 : Index := Scalar.indexCast arg0
  let arg1 : BitVec 32 := BitVec.ofNat 32 (i 1).val
  let v152 : Index := Scalar.indexCast arg1
  let c6_84 : Index := 6#32
  ![v151.toNat, v152.toNat, 6]
def k0_off35 (i : grid0.Coords) : Fin 2 → Nat :=
  let arg0 : BitVec 32 := BitVec.ofNat 32 (i 0).val
  let v285 : Index := Scalar.indexCast arg0
  let arg1 : BitVec 32 := BitVec.ofNat 32 (i 1).val
  let v286 : Index := Scalar.indexCast arg1
  ![v285.toNat, v286.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x384x160 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x896x160 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x160x896 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .smem S2x8x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .smem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x1x160x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x896x24x160 : Shape := ⟨4, ![2, 896, 24, 160]⟩
abbrev S2x7x24 : Shape := ⟨3, ![2, 7, 24]⟩
abbrev S2x896x8x160 : Shape := ⟨4, ![2, 896, 8, 160]⟩
abbrev S2x7x8 : Shape := ⟨3, ![2, 7, 8]⟩
abbrev S2x8 : Shape := ⟨2, ![2, 8]⟩
abbrev S2x24x896x160 : Shape := ⟨4, ![2, 24, 896, 160]⟩
abbrev S48x896x160 : Shape := ⟨3, ![48, 896, 160]⟩
abbrev S2x896x8x3x160 : Shape := ⟨5, ![2, 896, 8, 3, 160]⟩
abbrev S2x7x128x24 : Shape := ⟨4, ![2, 7, 128, 24]⟩
abbrev S2x896x24 : Shape := ⟨3, ![2, 896, 24]⟩
abbrev S2x24x896 : Shape := ⟨3, ![2, 24, 896]⟩
abbrev S48x896x1 : Shape := ⟨3, ![48, 896, 1]⟩
abbrev S2x7x128x8 : Shape := ⟨4, ![2, 7, 128, 8]⟩
abbrev S2x896x8 : Shape := ⟨3, ![2, 896, 8]⟩
abbrev S2x896x8x3 : Shape := ⟨4, ![2, 896, 8, 3]⟩
abbrev S48x1x896 : Shape := ⟨3, ![48, 1, 896]⟩
abbrev S2x8x3 : Shape := ⟨3, ![2, 8, 3]⟩
abbrev S2x24 : Shape := ⟨2, ![2, 24]⟩
abbrev S48x1x1 : Shape := ⟨3, ![48, 1, 1]⟩
abbrev S48x896x896 : Shape := ⟨3, ![48, 896, 896]⟩
abbrev S48x896 : Shape := ⟨2, ![48, 896]⟩

abbrev nBuf : Space → Nat
  | .hbm => 35
  | .vmem => 8
  | .smem => 0
  | _ => 0

abbrev bufTy : (tb : Table) → Fin (tcTables nBuf tb) → BufTy
  | .hbm, ⟨0, _⟩ => ⟨S2x896x24x160, .fp8e4m3⟩
  | .hbm, ⟨1, _⟩ => ⟨S2x7x24, .f32⟩
  | .hbm, ⟨2, _⟩ => ⟨S2x896x8x160, .fp8e4m3⟩
  | .hbm, ⟨3, _⟩ => ⟨S2x7x8, .f32⟩
  | .hbm, ⟨4, _⟩ => ⟨S2x896x8x160, .fp8e4m3⟩
  | .hbm, ⟨5, _⟩ => ⟨S2x8, .f32⟩
  | .hbm, ⟨6, _⟩ => ⟨S2x24x896x160, .fp8e4m3⟩
  | .hbm, ⟨7, _⟩ => ⟨S48x896x160, .fp8e4m3⟩
  | .hbm, ⟨8, _⟩ => ⟨S2x896x8x3x160, .fp8e4m3⟩
  | .hbm, ⟨9, _⟩ => ⟨S2x896x24x160, .fp8e4m3⟩
  | .hbm, ⟨10, _⟩ => ⟨S2x24x896x160, .fp8e4m3⟩
  | .hbm, ⟨11, _⟩ => ⟨S48x896x160, .fp8e4m3⟩
  | .hbm, ⟨12, _⟩ => ⟨S2x896x8x3x160, .fp8e4m3⟩
  | .hbm, ⟨13, _⟩ => ⟨S2x896x24x160, .fp8e4m3⟩
  | .hbm, ⟨14, _⟩ => ⟨S2x24x896x160, .fp8e4m3⟩
  | .hbm, ⟨15, _⟩ => ⟨S48x896x160, .fp8e4m3⟩
  | .hbm, ⟨16, _⟩ => ⟨S2x7x128x24, .f32⟩
  | .hbm, ⟨17, _⟩ => ⟨S2x896x24, .f32⟩
  | .hbm, ⟨18, _⟩ => ⟨S2x24x896, .f32⟩
  | .hbm, ⟨19, _⟩ => ⟨S48x896x1, .f32⟩
  | .hbm, ⟨20, _⟩ => ⟨S2x7x128x8, .f32⟩
  | .hbm, ⟨21, _⟩ => ⟨S2x896x8, .f32⟩
  | .hbm, ⟨22, _⟩ => ⟨S2x896x8x3, .f32⟩
  | .hbm, ⟨23, _⟩ => ⟨S2x896x24, .f32⟩
  | .hbm, ⟨24, _⟩ => ⟨S2x24x896, .f32⟩
  | .hbm, ⟨25, _⟩ => ⟨S48x1x896, .f32⟩
  | .hbm, ⟨26, _⟩ => ⟨S2x8x3, .f32⟩
  | .hbm, ⟨27, _⟩ => ⟨S2x24, .f32⟩
  | .hbm, ⟨28, _⟩ => ⟨S48x1x1, .f32⟩
  | .hbm, ⟨29, _⟩ => ⟨S48x896x160, .bf16⟩
  | .hbm, ⟨30, _⟩ => ⟨S48x896x1, .f32⟩
  | .hbm, ⟨31, _⟩ => ⟨S2x24x896x160, .bf16⟩
  | .hbm, ⟨32, _⟩ => ⟨S2x896x24x160, .bf16⟩
  | .hbm, ⟨33, _⟩ => ⟨S2x24x896, .f32⟩
  | .hbm, ⟨34, _⟩ => ⟨S2x896x24, .f32⟩
  | .local _ .vmem, ⟨0, _⟩ => ⟨S48x896x160, .fp8e4m3⟩
  | .local _ .vmem, ⟨1, _⟩ => ⟨S48x896x160, .fp8e4m3⟩
  | .local _ .vmem, ⟨2, _⟩ => ⟨S48x896x160, .fp8e4m3⟩
  | .local _ .vmem, ⟨3, _⟩ => ⟨S48x896x1, .f32⟩
  | .local _ .vmem, ⟨4, _⟩ => ⟨S48x1x896, .f32⟩
  | .local _ .vmem, ⟨5, _⟩ => ⟨S48x1x1, .f32⟩
  | .local _ .vmem, ⟨6, _⟩ => ⟨S48x896x160, .bf16⟩
  | .local _ .vmem, ⟨7, _⟩ => ⟨S48x896x1, .f32⟩
  | _, _ => ⟨S2x896x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S48x896x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x896x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x896x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x896x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x896x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x896x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Tile.lean ====
module

public import proofs.«01_k».proof.Proof.Gen.KernelIdeal.Skeleton
public import Idealize.ShloMosaic.Lib.Pipeline.Value
public import Idealize.ShloMosaic.Lib.Pipeline.ValueKit.Tiles
public import Idealize.ShloMosaic.Lib.ValueIdx

/-! What the kernel computes at one grid point, as one family of vector expressions in the number `n + 1` of key blocks that the
point sees. The printed kernel has a separate copy of its steps for each `n`; `Cases.lean` shows that each copy is this one. -/

@[expose] public section

noncomputable section

namespace Cert.KernelIdeal.Gen

open Idealize.ShloMosaic Idealize.SL.Sem Idealize.ShloMosaic.ValueIdx

variable {F : FTy → Type} [FloatOps F]

/-- Block `j` of the keys. -/
def kBlk (x1 : Vec F S1x1x896x160 .fp8e4m3) (j : ℕ) : Vec F S1x1x128x160 .fp8e4m3 :=
  View.ld (Val := Elt F) x1 (Rect.unit ![0, 0, 128 * (j % 7), 0] S1x1x128x160.size (by
    intro a; have := Nat.mod_lt j (show 0 < 7 by omega)
    fin_cases a <;> simp [Shape.size] <;> omega))

/-- Columns of the values for pair `p` of blocks. -/
def vPair (x2 : Vec F S1x1x160x896 .fp8e4m3) (p : ℕ) : Vec F S1x1x160x256 .fp8e4m3 :=
  View.ld (Val := Elt F) x2 (Rect.unit ![0, 0, 0, 256 * (p % 3)] S1x1x160x256.size (by
    intro a; have := Nat.mod_lt p (show 0 < 3 by omega)
    fin_cases a <;> simp [Shape.size] <;> omega))

/-- Columns of the values for a single block. -/
def vOne (x2 : Vec F S1x1x160x896 .fp8e4m3) (j : ℕ) : Vec F S1x1x160x128 .fp8e4m3 :=
  View.ld (Val := Elt F) x2 (Rect.unit ![0, 0, 0, 128 * (j % 7)] S1x1x160x128.size (by
    intro a; have := Nat.mod_lt j (show 0 < 7 by omega)
    fin_cases a <;> simp [Shape.size] <;> omega))

/-- The scores of a block of keys, before scales. -/
def tS (x0 : Vec F S1x1x384x160 .fp8e4m3) (k : Vec F S1x1x128x160 .fp8e4m3) : FVec F S128x384 .f32 :=
  matmul dot_S128x160_S384x160_S128x384_1_1_0_0_n_n none (shapeCast S128x160 k shapeCasts_S1x1x128x160_S128x160)
    (shapeCast S384x160 x0 shapeCasts_S1x1x384x160_S384x160) (constant S128x384 .f32 0x00000000#32)

/-- The scores of the last block, the unseen keys at the lowest number. -/
def tMask (s : FVec F S128x384 .f32) : FVec F S128x384 .f32 :=
  select (cmpi .sle (muli (iota .tc S128x384 32 [0] iota_S128x384_d0_w32) (broadcast S128x384 3#32))
    (iota .tc S128x384 32 [1] iota_S128x384_d1_w32)) s (broadcast S128x384 (Scalar.ofBits (F := F) .f32 0xFF800000#32))

/-- The scores of block `j` of `n + 1`. -/
def tSm (x0 : Vec F S1x1x384x160 .fp8e4m3) (x1 : Vec F S1x1x896x160 .fp8e4m3) (n j : ℕ) : FVec F S128x384 .f32 :=
  if j = n then tMask (tS x0 (kBlk x1 j)) else tS x0 (kBlk x1 j)

/-- The scale of a block. -/
def tC (x3 : Vec F S1x1x1x1x384 .f32) (ks : F .f32) : FVec F S1x384 .f32 :=
  mulf (mulf (shapeCast S1x384 x3 shapeCasts_S1x1x1x1x384_S1x384) (broadcast S1x384 ks))
    (broadcast S1x384 (Scalar.ofBits (F := F) .f32 0x3DA1E89B#32))

/-- A block's maximum. -/
def tR (s : FVec F S128x384 .f32) (c : FVec F S1x384 .f32) : FVec F S1x384 .f32 :=
  mulf (shapeCast S1x384 (multiReduction .maximumf [0] S384 s 0xFF800000#32 reduces_S128x384_S384 (.inl rfl) rfl) shapeCasts_S384_S1x384) c

/-- The running maximum over the blocks. -/
def tMx (s : ℕ → FVec F S128x384 .f32) (c : ℕ → FVec F S1x384 .f32) : ℕ → FVec F S1x384 .f32
  | 0 => tR (s 0) (c 0)
  | n + 1 => maximumf (tMx s c n) (tR (s (n + 1)) (c (n + 1)))

/-- The weights of a block. -/
def tP (s : FVec F S128x384 .f32) (c m : FVec F S1x384 .f32) : FVec F S128x384 .f32 :=
  bitcastToFloat .f32 (fptosi 32 (roundeven (subf
    (mulf (shapeCast S128x384 (shapeCast S1x128x384 s shapeCasts_S128x384_S1x128x384) shapeCasts_S1x128x384_S128x384)
      (broadcastTo S128x384 (mulf c (broadcast S1x384 (Scalar.ofBits (F := F) .f32 0x4B000000#32))) broadcasts_S1x384_S128x384))
    (broadcastTo S128x384 (mulf (addf m (broadcast S1x384 (Scalar.ofBits (F := F) .f32 0x43010000#32)))
      (broadcast S1x384 (Scalar.ofBits (F := F) .f32 0x4B000000#32))) broadcasts_S1x384_S128x384))))

/-- A block's weights, added within each of eight sublanes. -/
def tRed (p : FVec F S128x384 .f32) : FVec F S8x384 .f32 :=
  multiReduction .add [0] S8x384 (shapeCast S16x8x384 p shapeCasts_S128x384_S16x8x384) 0x00000000#32 reduces_S16x8x384_S8x384 (.inl rfl) rfl

/-- The running sum of weights. -/
def tLn (p : ℕ → FVec F S128x384 .f32) : ℕ → FVec F S8x384 .f32
  | 0 => addf (broadcast S8x384 (Scalar.ofBits (F := F) .f32 0x00000000#32)) (tRed (p 0))
  | n + 1 => addf (tLn p n) (tRed (p (n + 1)))

/-- The sum of the weights, its sign changed. -/
def tL (ln : FVec F S8x384 .f32) : FVec F S1x384 .f32 :=
  subf (broadcast S1x384 (Scalar.ofBits (F := F) .f32 0x00000000#32)) (shapeCast S1x384
    (multiReduction .add [0] S384 ln 0x00000000#32 reduces_S8x384_S384 (.inl rfl) rfl) shapeCasts_S384_S1x384)

/-- The running weighted sum of values over pairs of blocks. -/
def tAcc (x2 : Vec F S1x1x160x896 .fp8e4m3) (p : ℕ → FVec F S128x384 .f32) : ℕ → FVec F S160x384 .f32
  | 0 => broadcast S160x384 (Scalar.ofBits (F := F) .f32 0x00000000#32)
  | j + 1 => addf (tAcc x2 p j) (matmul dot_S160x256_S256x384_S160x384_1_0_0_1_n_n none
      (shapeCast S160x256 (vPair x2 j) shapeCasts_S1x1x160x256_S160x256)
      (concatenate S256x384 0 [⟨S128x384, truncf .fp8e4m3 (p (2 * j)) bitsLt_fp8e4m3_f32⟩, ⟨S128x384, truncf .fp8e4m3 (p (2 * j + 1)) bitsLt_fp8e4m3_f32⟩]
        concatenates_S128x384_S128x384_S256x384_d0) (constant S160x384 .f32 0x00000000#32))

/-- The weighted sum over `n + 1` blocks: pairs, and a last block by itself when `n` is even. -/
def tAccN (x2 : Vec F S1x1x160x896 .fp8e4m3) (p : ℕ → FVec F S128x384 .f32) (n : ℕ) : FVec F S160x384 .f32 :=
  if n % 2 = 0 then
    addf (tAcc x2 p (n / 2)) (matmul dot_S160x128_S128x384_S160x384_1_0_0_1_n_n none
      (shapeCast S160x128 (vOne x2 n) shapeCasts_S1x1x160x128_S160x128) (truncf .fp8e4m3 (p n) bitsLt_fp8e4m3_f32)
      (constant S160x384 .f32 0x00000000#32))
  else tAcc x2 p (n / 2 + 1)

/-- The output block. -/
def tO (acc : FVec F S160x384 .f32) (l : FVec F S1x384 .f32) (vs : F .f32) : FVec F S1x1x1x160x384 .f32 :=
  shapeCast S1x1x1x160x384 (divf (mulf acc (broadcast S160x384 vs))
    (broadcastTo S160x384 (subf (broadcast S1x384 (Scalar.ofBits (F := F) .f32 0x00000000#32)) l) broadcasts_S1x384_S160x384)) shapeCasts_S160x384_S1x1x1x160x384

/-- Each row's token within the point's block of tokens: the lane divided by three, rounding down. -/
def tTok : IVec S1x384 32 :=
  select (andi (cmpi .ne
      (subi (extui 32 (cmpi .sgt (iota .tc S1x384 32 [1] iota_S1x384_d1_w32) (broadcast S1x384 0#32)) natLt_1_32)
        (extui 32 (cmpi .slt (iota .tc S1x384 32 [1] iota_S1x384_d1_w32) (broadcast S1x384 0#32)) natLt_1_32))
      (broadcast S1x384 1#32))
    (cmpi .ne (remsi (iota .tc S1x384 32 [1] iota_S1x384_d1_w32) (broadcast S1x384 3#32)) (broadcast S1x384 0#32)))
    (subi (divsi (iota .tc S1x384 32 [1] iota_S1x384_d1_w32) (broadcast S1x384 3#32)) (broadcast S1x384 1#32))
    (divsi (iota .tc S1x384 32 [1] iota_S1x384_d1_w32) (broadcast S1x384 3#32))

/-- The logarithm's block. -/
def tLse (m l : FVec F S1x384 .f32) (n : ℕ) : FVec F S1x1x1x1x384 .f32 :=
  shapeCast S1x1x1x1x384 (subf
    (addf m (divf (log l) (log (broadcast S1x384 (Scalar.ofBits (F := F) .f32 0x40000000#32)))))
    (divf (log (sitofp .f32 (addi (broadcast S1x384 (BitVec.ofNat 32 (128 * n + 1))) tTok)))
      (log (broadcast S1x384 (Scalar.ofBits (F := F) .f32 0x40000000#32))))) shapeCasts_S1x384_S1x1x1x1x384

section
variable (x0 : Vec F S1x1x384x160 .fp8e4m3) (x1 : Vec F S1x1x896x160 .fp8e4m3) (x2 : Vec F S1x1x160x896 .fp8e4m3)
  (x3 : Vec F S1x1x1x1x384 .f32) (ks : ℕ → F .f32) (vs : F .f32) (n : ℕ)

/-- The rounded maximum at a point. -/
def pM : FVec F S1x384 .f32 := ceil (tMx (tSm x0 x1 n) (fun j => tC x3 (ks j)) n)

/-- The weights at a point. -/
def pP (j : ℕ) : FVec F S128x384 .f32 := tP (tSm x0 x1 n j) (tC x3 (ks j)) (pM x0 x1 x3 ks n)

/-- The sum of the weights at a point. -/
def pL : FVec F S1x384 .f32 := tL (tLn (pP x0 x1 x3 ks n) n)

/-- What a point stores to the output. -/
def pO : FVec F S1x1x1x160x384 .f32 := tO (tAccN x2 (pP x0 x1 x3 ks n) n) (pL x0 x1 x3 ks n) vs

/-- What a point stores to the logarithms. -/
def pLse : FVec F S1x1x1x1x384 .f32 := tLse (pM x0 x1 x3 ks n) (pL x0 x1 x3 ks n) n
end

/-- The key scale that a load at the given offsets reads. -/
def ksW (x4 : Vec F S2x8x7 .f32) (u v j : ℕ) : F .f32 :=
  x4 (ix3 (⟨u % 2, Nat.mod_lt _ (by omega)⟩ : Fin 2) (⟨v % 8, Nat.mod_lt _ (by omega)⟩ : Fin 8) (⟨j % 7, Nat.mod_lt _ (by omega)⟩ : Fin 7))

/-- The value scale that a load at the given offsets reads. -/
def vsW (x5 : Vec F S2x8 .f32) (u v : ℕ) : F .f32 :=
  x5 (ix2 (⟨u % 2, Nat.mod_lt _ (by omega)⟩ : Fin 2) (⟨v % 8, Nat.mod_lt _ (by omega)⟩ : Fin 8))

/-- A coordinate's word is the coordinate. -/
theorem word_toNat (v n : ℕ) (h : v < n) (hn : n ≤ 8) : (Scalar.indexCast (BitVec.ofNat 32 v)).toNat = v := by
  show (BitVec.ofNat 32 v).toNat = v
  rw [BitVec.toNat_ofNat]; omega

/-- The key scale of block `j` at a grid point. -/
def ksAt (i : grid0.Coords) (x4 : Vec F S2x8x7 .f32) (j : ℕ) : F .f32 :=
  View.ld (Val := Elt F) x4 (Rect.unit ![(Scalar.indexCast (BitVec.ofNat 32 (i 0).val)).toNat, (Scalar.indexCast (BitVec.ofNat 32 (i 1).val)).toNat, j % 7] S1x1x1.size (by
    have h0 := word_toNat (i 0).val 2 (i 0).isLt (by omega)
    have h1 := word_toNat (i 1).val 8 (i 1).isLt (by omega)
    have l0 : (i 0).val < 2 := (i 0).isLt
    have l1 : (i 1).val < 8 := (i 1).isLt
    have := Nat.mod_lt j (show 0 < 7 by omega)
    intro a
    fin_cases a
    · show (Scalar.indexCast (BitVec.ofNat 32 (i 0).val)).toNat + 1 ≤ 2
      omega
    · show (Scalar.indexCast (BitVec.ofNat 32 (i 1).val)).toNat + 1 ≤ 8
      omega
    · show j % 7 + 1 ≤ 7
      omega)) (Shape.Idx.first (s := S1x1x1) (by decide))

/-- The value scale at a grid point. -/
def vsAt (i : grid0.Coords) (x5 : Vec F S2x8 .f32) : F .f32 :=
  View.ld (Val := Elt F) x5 (Rect.unit ![(Scalar.indexCast (BitVec.ofNat 32 (i 0).val)).toNat, (Scalar.indexCast (BitVec.ofNat 32 (i 1).val)).toNat] S1x1.size (by
    have h0 := word_toNat (i 0).val 2 (i 0).isLt (by omega)
    have h1 := word_toNat (i 1).val 8 (i 1).isLt (by omega)
    have l0 : (i 0).val < 2 := (i 0).isLt
    have l1 : (i 1).val < 8 := (i 1).isLt
    intro a
    fin_cases a
    · show (Scalar.indexCast (BitVec.ofNat 32 (i 0).val)).toNat + 1 ≤ 2
      omega
    · show (Scalar.indexCast (BitVec.ofNat 32 (i 1).val)).toNat + 1 ≤ 8
      omega)) (Shape.Idx.first (s := S1x1) (by decide))

/-- A load of one word of the key scales. -/
theorem ld_ks (x4 : Vec F S2x8x7 .f32) (u v j : ℕ) (inb) (x : (Rect.unit (s := S2x8x7) ![u, v, j] ![1, 1, 1] inb).shape.Idx) :
    View.ld (Val := Elt F) x4 (Rect.unit ![u, v, j] ![1, 1, 1] inb) x = ksW x4 u v j := by
  have h0 : u + 1 ≤ 2 := inb 0
  have h1 : v + 1 ≤ 8 := inb 1
  have h2 : j + 1 ≤ 7 := inb 2
  refine congrArg x4 (funext fun a => Fin.ext ((Rect.idx_unit_val _ _ inb x a).trans ?_))
  have hx := (x a).isLt
  fin_cases a
  · have : (x 0).val < 1 := hx
    show u + (x 0).val = u % 2
    omega
  · have : (x 1).val < 1 := hx
    show v + (x 1).val = v % 8
    omega
  · have : (x 2).val < 1 := hx
    show j + (x 2).val = j % 7
    omega

/-- A load of one word of the value scales. -/
theorem ld_vs (x5 : Vec F S2x8 .f32) (u v : ℕ) (inb) (x : (Rect.unit (s := S2x8) ![u, v] ![1, 1] inb).shape.Idx) :
    View.ld (Val := Elt F) x5 (Rect.unit ![u, v] ![1, 1] inb) x = vsW x5 u v := by
  have h0 : u + 1 ≤ 2 := inb 0
  have h1 : v + 1 ≤ 8 := inb 1
  refine congrArg x5 (funext fun a => Fin.ext ((Rect.idx_unit_val _ _ inb x a).trans ?_))
  have hx := (x a).isLt
  fin_cases a
  · have : (x 0).val < 1 := hx
    show u + (x 0).val = u % 2
    omega
  · have : (x 1).val < 1 := hx
    show v + (x 1).val = v % 8
    omega

end Cert.KernelIdeal.Gen

end
-- ==== Proof.Cases.lean ====
module

public import proofs.«01_k».proof.Proof.Tile
public import proofs.«01_k».proof.Proof.Gen.KernelIdeal.Frame
public import Idealize.ShloMosaic.Lib.Pipeline.ReadBack

@[expose] public section

set_option maxRecDepth 16384

noncomputable section

namespace Cert.KernelIdeal.Gen

open Idealize.ShloMosaic Idealize.ShloMosaic.TcCoe Idealize.SL.Sem Idealize.ShloMosaic.Tactic

variable {F : FTy → Type} [FloatOps F]

/-- Case A's copy of the steps is the family at 0. -/
theorem run_A (c : Dev nD) (i : grid0.Coords) (arg3 : Memref sig .tc .vmem S1x1x384x160 .fp8e4m3) (harg3 : arg3.IsWhole) (arg4 : Memref sig .tc .vmem S1x1x896x160 .fp8e4m3) (harg4 : arg4.IsWhole) (arg5 : Memref sig .tc .vmem S1x1x160x896 .fp8e4m3) (harg5 : arg5.IsWhole) (arg6 : Memref sig .tc .vmem S1x1x1x1x384 .f32) (harg6 : arg6.IsWhole) (arg7 : Memref sig .tc .smem S2x8x7 .f32) (harg7 : arg7.IsWhole) (arg8 : Memref sig .tc .smem S2x8 .f32) (harg8 : arg8.IsWhole) (arg9 : Memref sig .tc .vmem S1x1x1x160x384 .f32) (harg9 : arg9.IsWhole) (arg10 : Memref sig .tc .vmem S1x1x1x1x384 .f32) (harg10 : arg10.IsWhole) (arg11 : Memref sig .tc .vmem S7x128x384 .f32) (harg11 : arg11.IsWhole)
    (hc0 : cond0_0 i) (hc1 : ¬cond0_1 i) (hc2 : ¬cond0_2 i) (hc3 : ¬cond0_3 i) (hc4 : ¬cond0_4 i) (hc5 : ¬cond0_5 i) (hc6 : ¬cond0_6 i)
    (x0 : Vec F S1x1x384x160 .fp8e4m3) (x1 : Vec F S1x1x896x160 .fp8e4m3) (x2 : Vec F S1x1x160x896 .fp8e4m3) (x3 : Vec F S1x1x1x1x384 .f32) (x4 : Vec F S2x8x7 .f32) (x5 : Vec F S2x8 .f32) :
    (kernelRun0_A c i arg3 harg3 arg4 harg4 arg5 harg5 arg6 harg6 arg7 harg7 arg8 harg8 arg9 harg9 arg10 harg10 arg11 harg11 hc0 hc1 hc2 hc3 hc4 hc5 hc6 x0 x1 x2 x3 x4 x5).1 = [⟨Rect.unit ![0, 0, 0, 0, 0] S1x1x1x160x384.size inb_S1x1x1x160x384_S1x1x1x160x384_0_0_0_0_0, pO x0 x1 x2 x3 (ksAt i x4) (vsAt i x5) 0⟩]
    ∧ (kernelRun0_A c i arg3 harg3 arg4 harg4 arg5 harg5 arg6 harg6 arg7 harg7 arg8 harg8 arg9 harg9 arg10 harg10 arg11 harg11 hc0 hc1 hc2 hc3 hc4 hc5 hc6 x0 x1 x2 x3 x4 x5).2.1 = [⟨Rect.unit ![0, 0, 0, 0, 0] S1x1x1x1x384.size inb_S1x1x1x1x384_S1x1x1x1x384_0_0_0_0_0, pLse x0 x1 x3 (ksAt i x4) 0⟩] := by
  unfold kernelRun0_A
  dsimp only
  sl_unfold_words
  simp (disch := decide) only [View.readAt_eq_ld, Memref.IsWhole.read_unread, ↓View.readCov_skip, View.readCov_cons_toLoadRect, View.ld_unit_lit']
  constructor
  · sl_kernel_rfl
  · sl_kernel_rfl

/-- Case B's copy of the steps is the family at 1. -/
theorem run_B (c : Dev nD) (i : grid0.Coords) (arg3 : Memref sig .tc .vmem S1x1x384x160 .fp8e4m3) (harg3 : arg3.IsWhole) (arg4 : Memref sig .tc .vmem S1x1x896x160 .fp8e4m3) (harg4 : arg4.IsWhole) (arg5 : Memref sig .tc .vmem S1x1x160x896 .fp8e4m3) (harg5 : arg5.IsWhole) (arg6 : Memref sig .tc .vmem S1x1x1x1x384 .f32) (harg6 : arg6.IsWhole) (arg7 : Memref sig .tc .smem S2x8x7 .f32) (harg7 : arg7.IsWhole) (arg8 : Memref sig .tc .smem S2x8 .f32) (harg8 : arg8.IsWhole) (arg9 : Memref sig .tc .vmem S1x1x1x160x384 .f32) (harg9 : arg9.IsWhole) (arg10 : Memref sig .tc .vmem S1x1x1x1x384 .f32) (harg10 : arg10.IsWhole) (arg11 : Memref sig .tc .vmem S7x128x384 .f32) (harg11 : arg11.IsWhole)
    (hc0 : ¬cond0_0 i) (hc1 : cond0_1 i) (hc2 : ¬cond0_2 i) (hc3 : ¬cond0_3 i) (hc4 : ¬cond0_4 i) (hc5 : ¬cond0_5 i) (hc6 : ¬cond0_6 i)
    (x0 : Vec F S1x1x384x160 .fp8e4m3) (x1 : Vec F S1x1x896x160 .fp8e4m3) (x2 : Vec F S1x1x160x896 .fp8e4m3) (x3 : Vec F S1x1x1x1x384 .f32) (x4 : Vec F S2x8x7 .f32) (x5 : Vec F S2x8 .f32) :
    (kernelRun0_B c i arg3 harg3 arg4 harg4 arg5 harg5 arg6 harg6 arg7 harg7 arg8 harg8 arg9 harg9 arg10 harg10 arg11 harg11 hc0 hc1 hc2 hc3 hc4 hc5 hc6 x0 x1 x2 x3 x4 x5).1 = [⟨Rect.unit ![0, 0, 0, 0, 0] S1x1x1x160x384.size inb_S1x1x1x160x384_S1x1x1x160x384_0_0_0_0_0, pO x0 x1 x2 x3 (ksAt i x4) (vsAt i x5) 1⟩]
    ∧ (kernelRun0_B c i arg3 harg3 arg4 harg4 arg5 harg5 arg6 harg6 arg7 harg7 arg8 harg8 arg9 harg9 arg10 harg10 arg11 harg11 hc0 hc1 hc2 hc3 hc4 hc5 hc6 x0 x1 x2 x3 x4 x5).2.1 = [⟨Rect.unit ![0, 0, 0, 0, 0] S1x1x1x1x384.size inb_S1x1x1x1x384_S1x1x1x1x384_0_0_0_0_0, pLse x0 x1 x3 (ksAt i x4) 1⟩] := by
  unfold kernelRun0_B
  dsimp only
  sl_unfold_words
  simp (disch := decide) only [View.readAt_eq_ld, Memref.IsWhole.read_unread, ↓View.readCov_skip, View.readCov_cons_toLoadRect, View.ld_unit_lit']
  constructor
  · sl_kernel_rfl
  · sl_kernel_rfl

/-- Case C's copy of the steps is the family at 2. -/
theorem run_C (c : Dev nD) (i : grid0.Coords) (arg3 : Memref sig .tc .vmem S1x1x384x160 .fp8e4m3) (harg3 : arg3.IsWhole) (arg4 : Memref sig .tc .vmem S1x1x896x160 .fp8e4m3) (harg4 : arg4.IsWhole) (arg5 : Memref sig .tc .vmem S1x1x160x896 .fp8e4m3) (harg5 : arg5.IsWhole) (arg6 : Memref sig .tc .vmem S1x1x1x1x384 .f32) (harg6 : arg6.IsWhole) (arg7 : Memref sig .tc .smem S2x8x7 .f32) (harg7 : arg7.IsWhole) (arg8 : Memref sig .tc .smem S2x8 .f32) (harg8 : arg8.IsWhole) (arg9 : Memref sig .tc .vmem S1x1x1x160x384 .f32) (harg9 : arg9.IsWhole) (arg10 : Memref sig .tc .vmem S1x1x1x1x384 .f32) (harg10 : arg10.IsWhole) (arg11 : Memref sig .tc .vmem S7x128x384 .f32) (harg11 : arg11.IsWhole)
    (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec F S1x1x384x160 .fp8e4m3) (x1 : Vec F S1x1x896x160 .fp8e4m3) (x2 : Vec F S1x1x160x896 .fp8e4m3) (x3 : Vec F S1x1x1x1x384 .f32) (x4 : Vec F S2x8x7 .f32) (x5 : Vec F S2x8 .f32) :
    (kernelRun0_C c i arg3 harg3 arg4 harg4 arg5 harg5 arg6 harg6 arg7 harg7 arg8 harg8 arg9 harg9 arg10 harg10 arg11 harg11 hc0 hc1 hc2 hc3 hc4 hc5 hc6 x0 x1 x2 x3 x4 x5).1 = [⟨Rect.unit ![0, 0, 0, 0, 0] S1x1x1x160x384.size inb_S1x1x1x160x384_S1x1x1x160x384_0_0_0_0_0, pO x0 x1 x2 x3 (ksAt i x4) (vsAt i x5) 2⟩]
    ∧ (kernelRun0_C c i arg3 harg3 arg4 harg4 arg5 harg5 arg6 harg6 arg7 harg7 arg8 harg8 arg9 harg9 arg10 harg10 arg11 harg11 hc0 hc1 hc2 hc3 hc4 hc5 hc6 x0 x1 x2 x3 x4 x5).2.1 = [⟨Rect.unit ![0, 0, 0, 0, 0] S1x1x1x1x384.size inb_S1x1x1x1x384_S1x1x1x1x384_0_0_0_0_0, pLse x0 x1 x3 (ksAt i x4) 2⟩] := by
  unfold kernelRun0_C
  dsimp only
  sl_unfold_words
  simp (disch := decide) only [View.readAt_eq_ld, Memref.IsWhole.read_unread, ↓View.readCov_skip, View.readCov_cons_toLoadRect, View.ld_unit_lit']
  constructor
  · sl_kernel_rfl
  · sl_kernel_rfl

/-- Case D's copy of the steps is the family at 3. -/
theorem run_D (c : Dev nD) (i : grid0.Coords) (arg3 : Memref sig .tc .vmem S1x1x384x160 .fp8e4m3) (harg3 : arg3.IsWhole) (arg4 : Memref sig .tc .vmem S1x1x896x160 .fp8e4m3) (harg4 : arg4.IsWhole) (arg5 : Memref sig .tc .vmem S1x1x160x896 .fp8e4m3) (harg5 : arg5.IsWhole) (arg6 : Memref sig .tc .vmem S1x1x1x1x384 .f32) (harg6 : arg6.IsWhole) (arg7 : Memref sig .tc .smem S2x8x7 .f32) (harg7 : arg7.IsWhole) (arg8 : Memref sig .tc .smem S2x8 .f32) (harg8 : arg8.IsWhole) (arg9 : Memref sig .tc .vmem S1x1x1x160x384 .f32) (harg9 : arg9.IsWhole) (arg10 : Memref sig .tc .vmem S1x1x1x1x384 .f32) (harg10 : arg10.IsWhole) (arg11 : Memref sig .tc .vmem S7x128x384 .f32) (harg11 : arg11.IsWhole)
    (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec F S1x1x384x160 .fp8e4m3) (x1 : Vec F S1x1x896x160 .fp8e4m3) (x2 : Vec F S1x1x160x896 .fp8e4m3) (x3 : Vec F S1x1x1x1x384 .f32) (x4 : Vec F S2x8x7 .f32) (x5 : Vec F S2x8 .f32) :
    (kernelRun0_D c i arg3 harg3 arg4 harg4 arg5 harg5 arg6 harg6 arg7 harg7 arg8 harg8 arg9 harg9 arg10 harg10 arg11 harg11 hc0 hc1 hc2 hc3 hc4 hc5 hc6 x0 x1 x2 x3 x4 x5).1 = [⟨Rect.unit ![0, 0, 0, 0, 0] S1x1x1x160x384.size inb_S1x1x1x160x384_S1x1x1x160x384_0_0_0_0_0, pO x0 x1 x2 x3 (ksAt i x4) (vsAt i x5) 3⟩]
    ∧ (kernelRun0_D c i arg3 harg3 arg4 harg4 arg5 harg5 arg6 harg6 arg7 harg7 arg8 harg8 arg9 harg9 arg10 harg10 arg11 harg11 hc0 hc1 hc2 hc3 hc4 hc5 hc6 x0 x1 x2 x3 x4 x5).2.1 = [⟨Rect.unit ![0, 0, 0, 0, 0] S1x1x1x1x384.size inb_S1x1x1x1x384_S1x1x1x1x384_0_0_0_0_0, pLse x0 x1 x3 (ksAt i x4) 3⟩] := by
  unfold kernelRun0_D
  dsimp only
  sl_unfold_words
  simp (disch := decide) only [View.readAt_eq_ld, Memref.IsWhole.read_unread, ↓View.readCov_skip, View.readCov_cons_toLoadRect, View.ld_unit_lit']
  constructor
  · sl_kernel_rfl
  · sl_kernel_rfl

/-- Case E's copy of the steps is the family at 4. -/
theorem run_E (c : Dev nD) (i : grid0.Coords) (arg3 : Memref sig .tc .vmem S1x1x384x160 .fp8e4m3) (harg3 : arg3.IsWhole) (arg4 : Memref sig .tc .vmem S1x1x896x160 .fp8e4m3) (harg4 : arg4.IsWhole) (arg5 : Memref sig .tc .vmem S1x1x160x896 .fp8e4m3) (harg5 : arg5.IsWhole) (arg6 : Memref sig .tc .vmem S1x1x1x1x384 .f32) (harg6 : arg6.IsWhole) (arg7 : Memref sig .tc .smem S2x8x7 .f32) (harg7 : arg7.IsWhole) (arg8 : Memref sig .tc .smem S2x8 .f32) (harg8 : arg8.IsWhole) (arg9 : Memref sig .tc .vmem S1x1x1x160x384 .f32) (harg9 : arg9.IsWhole) (arg10 : Memref sig .tc .vmem S1x1x1x1x384 .f32) (harg10 : arg10.IsWhole) (arg11 : Memref sig .tc .vmem S7x128x384 .f32) (harg11 : arg11.IsWhole)
    (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec F S1x1x384x160 .fp8e4m3) (x1 : Vec F S1x1x896x160 .fp8e4m3) (x2 : Vec F S1x1x160x896 .fp8e4m3) (x3 : Vec F S1x1x1x1x384 .f32) (x4 : Vec F S2x8x7 .f32) (x5 : Vec F S2x8 .f32) :
    (kernelRun0_E c i arg3 harg3 arg4 harg4 arg5 harg5 arg6 harg6 arg7 harg7 arg8 harg8 arg9 harg9 arg10 harg10 arg11 harg11 hc0 hc1 hc2 hc3 hc4 hc5 hc6 x0 x1 x2 x3 x4 x5).1 = [⟨Rect.unit ![0, 0, 0, 0, 0] S1x1x1x160x384.size inb_S1x1x1x160x384_S1x1x1x160x384_0_0_0_0_0, pO x0 x1 x2 x3 (ksAt i x4) (vsAt i x5) 4⟩]
    ∧ (kernelRun0_E c i arg3 harg3 arg4 harg4 arg5 harg5 arg6 harg6 arg7 harg7 arg8 harg8 arg9 harg9 arg10 harg10 arg11 harg11 hc0 hc1 hc2 hc3 hc4 hc5 hc6 x0 x1 x2 x3 x4 x5).2.1 = [⟨Rect.unit ![0, 0, 0, 0, 0] S1x1x1x1x384.size inb_S1x1x1x1x384_S1x1x1x1x384_0_0_0_0_0, pLse x0 x1 x3 (ksAt i x4) 4⟩] := by
  unfold kernelRun0_E
  dsimp only
  sl_unfold_words
  simp (disch := decide) only [View.readAt_eq_ld, Memref.IsWhole.read_unread, ↓View.readCov_skip, View.readCov_cons_toLoadRect, View.ld_unit_lit']
  constructor
  · sl_kernel_rfl
  · sl_kernel_rfl

/-- Case F's copy of the steps is the family at 5. -/
theorem run_F (c : Dev nD) (i : grid0.Coords) (arg3 : Memref sig .tc .vmem S1x1x384x160 .fp8e4m3) (harg3 : arg3.IsWhole) (arg4 : Memref sig .tc .vmem S1x1x896x160 .fp8e4m3) (harg4 : arg4.IsWhole) (arg5 : Memref sig .tc .vmem S1x1x160x896 .fp8e4m3) (harg5 : arg5.IsWhole) (arg6 : Memref sig .tc .vmem S1x1x1x1x384 .f32) (harg6 : arg6.IsWhole) (arg7 : Memref sig .tc .smem S2x8x7 .f32) (harg7 : arg7.IsWhole) (arg8 : Memref sig .tc .smem S2x8 .f32) (harg8 : arg8.IsWhole) (arg9 : Memref sig .tc .vmem S1x1x1x160x384 .f32) (harg9 : arg9.IsWhole) (arg10 : Memref sig .tc .vmem S1x1x1x1x384 .f32) (harg10 : arg10.IsWhole) (arg11 : Memref sig .tc .vmem S7x128x384 .f32) (harg11 : arg11.IsWhole)
    (hc0 : ¬cond0_0 i) (hc1 : ¬cond0_1 i) (hc2 : ¬cond0_2 i) (hc3 : ¬cond0_3 i) (hc4 : ¬cond0_4 i) (hc5 : cond0_5 i) (hc6 : ¬cond0_6 i)
    (x0 : Vec F S1x1x384x160 .fp8e4m3) (x1 : Vec F S1x1x896x160 .fp8e4m3) (x2 : Vec F S1x1x160x896 .fp8e4m3) (x3 : Vec F S1x1x1x1x384 .f32) (x4 : Vec F S2x8x7 .f32) (x5 : Vec F S2x8 .f32) :
    (kernelRun0_F c i arg3 harg3 arg4 harg4 arg5 harg5 arg6 harg6 arg7 harg7 arg8 harg8 arg9 harg9 arg10 harg10 arg11 harg11 hc0 hc1 hc2 hc3 hc4 hc5 hc6 x0 x1 x2 x3 x4 x5).1 = [⟨Rect.unit ![0, 0, 0, 0, 0] S1x1x1x160x384.size inb_S1x1x1x160x384_S1x1x1x160x384_0_0_0_0_0, pO x0 x1 x2 x3 (ksAt i x4) (vsAt i x5) 5⟩]
    ∧ (kernelRun0_F c i arg3 harg3 arg4 harg4 arg5 harg5 arg6 harg6 arg7 harg7 arg8 harg8 arg9 harg9 arg10 harg10 arg11 harg11 hc0 hc1 hc2 hc3 hc4 hc5 hc6 x0 x1 x2 x3 x4 x5).2.1 = [⟨Rect.unit ![0, 0, 0, 0, 0] S1x1x1x1x384.size inb_S1x1x1x1x384_S1x1x1x1x384_0_0_0_0_0, pLse x0 x1 x3 (ksAt i x4) 5⟩] := by
  unfold kernelRun0_F
  dsimp only
  sl_unfold_words
  simp (disch := decide) only [View.readAt_eq_ld, Memref.IsWhole.read_unread, ↓View.readCov_skip, View.readCov_cons_toLoadRect, View.ld_unit_lit']
  constructor
  · sl_kernel_rfl
  · sl_kernel_rfl

/-- Case G's copy of the steps is the family at 6. -/
theorem run_G (c : Dev nD) (i : grid0.Coords) (arg3 : Memref sig .tc .vmem S1x1x384x160 .fp8e4m3) (harg3 : arg3.IsWhole) (arg4 : Memref sig .tc .vmem S1x1x896x160 .fp8e4m3) (harg4 : arg4.IsWhole) (arg5 : Memref sig .tc .vmem S1x1x160x896 .fp8e4m3) (harg5 : arg5.IsWhole) (arg6 : Memref sig .tc .vmem S1x1x1x1x384 .f32) (harg6 : arg6.IsWhole) (arg7 : Memref sig .tc .smem S2x8x7 .f32) (harg7 : arg7.IsWhole) (arg8 : Memref sig .tc .smem S2x8 .f32) (harg8 : arg8.IsWhole) (arg9 : Memref sig .tc .vmem S1x1x1x160x384 .f32) (harg9 : arg9.IsWhole) (arg10 : Memref sig .tc .vmem S1x1x1x1x384 .f32) (harg10 : arg10.IsWhole) (arg11 : Memref sig .tc .vmem S7x128x384 .f32) (harg11 : arg11.IsWhole)
    (hc0 : ¬cond0_0 i) (hc1 : ¬cond0_1 i) (hc2 : ¬cond0_2 i) (hc3 : ¬cond0_3 i) (hc4 : ¬cond0_4 i) (hc5 : ¬cond0_5 i) (hc6 : cond0_6 i)
    (x0 : Vec F S1x1x384x160 .fp8e4m3) (x1 : Vec F S1x1x896x160 .fp8e4m3) (x2 : Vec F S1x1x160x896 .fp8e4m3) (x3 : Vec F S1x1x1x1x384 .f32) (x4 : Vec F S2x8x7 .f32) (x5 : Vec F S2x8 .f32) :
    (kernelRun0_G c i arg3 harg3 arg4 harg4 arg5 harg5 arg6 harg6 arg7 harg7 arg8 harg8 arg9 harg9 arg10 harg10 arg11 harg11 hc0 hc1 hc2 hc3 hc4 hc5 hc6 x0 x1 x2 x3 x4 x5).1 = [⟨Rect.unit ![0, 0, 0, 0, 0] S1x1x1x160x384.size inb_S1x1x1x160x384_S1x1x1x160x384_0_0_0_0_0, pO x0 x1 x2 x3 (ksAt i x4) (vsAt i x5) 6⟩]
    ∧ (kernelRun0_G c i arg3 harg3 arg4 harg4 arg5 harg5 arg6 harg6 arg7 harg7 arg8 harg8 arg9 harg9 arg10 harg10 arg11 harg11 hc0 hc1 hc2 hc3 hc4 hc5 hc6 x0 x1 x2 x3 x4 x5).2.1 = [⟨Rect.unit ![0, 0, 0, 0, 0] S1x1x1x1x384.size inb_S1x1x1x1x384_S1x1x1x1x384_0_0_0_0_0, pLse x0 x1 x3 (ksAt i x4) 6⟩] := by
  unfold kernelRun0_G
  dsimp only
  sl_unfold_words
  simp (disch := decide) only [View.readAt_eq_ld, Memref.IsWhole.read_unread, ↓View.readCov_skip, View.readCov_cons_toLoadRect, View.ld_unit_lit']
  constructor
  · sl_kernel_rfl
  · sl_kernel_rfl

end Cert.KernelIdeal.Gen

end
-- ==== Proof.Outs.lean ====
module

public import proofs.«01_k».proof.Proof.Cases
public import Idealize.ShloMosaic.Lib.Pipeline.FrameBody

/-! What a grid point leaves in the two output blocks: the family of `Tile.lean` at the number of key blocks the point sees. -/

@[expose] public section

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ)

/-- One store of a whole block of the output, read back, is what was stored. -/
theorem read_one6 (L : List (View.Piece (Elt F) S1x1x1x160x384 .f32)) (w : FVec F S1x1x1x160x384 .f32)
    (h : L = [⟨Rect.unit ![0, 0, 0, 0, 0] S1x1x1x160x384.size inb_S1x1x1x160x384_S1x1x1x160x384_0_0_0_0_0, w⟩]) :
    VO0_6.read (Elt F) (VO0_6.writes (Elt F) VO0_6.junk L) = w := by
  subst h
  have hz : (![0, 0, 0, 0, 0] : Fin 5 → ℕ) = fun _ => 0 := by decide
  rw [View.read_writes_eq_canon _ _ _ (fun y => ⟨_, List.mem_singleton_self _, View.mem_set_unit_zero hz inb_S1x1x1x160x384_S1x1x1x160x384_0_0_0_0_0 y⟩), View.canon_unit_zero hz]

/-- The same for the logarithms. -/
theorem read_one7 (L : List (View.Piece (Elt F) S1x1x1x1x384 .f32)) (w : FVec F S1x1x1x1x384 .f32)
    (h : L = [⟨Rect.unit ![0, 0, 0, 0, 0] S1x1x1x1x384.size inb_S1x1x1x1x384_S1x1x1x1x384_0_0_0_0_0, w⟩]) :
    VO0_7.read (Elt F) (VO0_7.writes (Elt F) VO0_7.junk L) = w := by
  subst h
  have hz : (![0, 0, 0, 0, 0] : Fin 5 → ℕ) = fun _ => 0 := by decide
  rw [View.read_writes_eq_canon _ _ _ (fun y => ⟨_, List.mem_singleton_self _, View.mem_set_unit_zero hz inb_S1x1x1x1x384_S1x1x1x1x384_0_0_0_0_0 y⟩), View.canon_unit_zero hz]

/-- What point `t` leaves in its output blocks. -/
theorem outs (c : Dev nD) (t : Fin cfg0.N) (n : ℕ) (hn : t.val % 7 = n) : outsAt0 m c t.val t.isLt
    = (pO (iblk m c 0 t) (iblk m c 1 t) (iblk m c 2 t) (iblk m c 3 t) (ksAt (grid0.coords t) (iblk m c 4 t)) (vsAt (grid0.coords t) (iblk m c 5 t)) n,
      pLse (iblk m c 0 t) (iblk m c 1 t) (iblk m c 3 t) (ksAt (grid0.coords t) (iblk m c 4 t)) n) := by
  obtain rfl | rfl | rfl | rfl | rfl | rfl | rfl : n = 0 ∨ n = 1 ∨ n = 2 ∨ n = 3 ∨ n = 4 ∨ n = 5 ∨ n = 6 := by omega
  · rw [outsAt0_A m c t hn (by omega) (by omega) (by omega) (by omega) (by omega) (by omega)]
    unfold out0_A_6 out0_A_7
    exact congrArg₂ Prod.mk (read_one6 _ _ (run_A ..).1) (read_one7 _ _ (run_A ..).2)
  · rw [outsAt0_B m c t (by omega) hn (by omega) (by omega) (by omega) (by omega) (by omega)]
    unfold out0_B_6 out0_B_7
    exact congrArg₂ Prod.mk (read_one6 _ _ (run_B ..).1) (read_one7 _ _ (run_B ..).2)
  · rw [outsAt0_C m c t (by omega) (by omega) hn (by omega) (by omega) (by omega) (by omega)]
    unfold out0_C_6 out0_C_7
    exact congrArg₂ Prod.mk (read_one6 _ _ (run_C ..).1) (read_one7 _ _ (run_C ..).2)
  · rw [outsAt0_D m c t (by omega) (by omega) (by omega) hn (by omega) (by omega) (by omega)]
    unfold out0_D_6 out0_D_7
    exact congrArg₂ Prod.mk (read_one6 _ _ (run_D ..).1) (read_one7 _ _ (run_D ..).2)
  · rw [outsAt0_E m c t (by omega) (by omega) (by omega) (by omega) hn (by omega) (by omega)]
    unfold out0_E_6 out0_E_7
    exact congrArg₂ Prod.mk (read_one6 _ _ (run_E ..).1) (read_one7 _ _ (run_E ..).2)
  · rw [outsAt0_F m c t (by omega) (by omega) (by omega) (by omega) (by omega) hn (by omega)]
    unfold out0_F_6 out0_F_7
    exact congrArg₂ Prod.mk (read_one6 _ _ (run_F ..).1) (read_one7 _ _ (run_F ..).2)
  · rw [outsAt0_G m c t (by omega) (by omega) (by omega) (by omega) (by omega) (by omega) hn]
    unfold out0_G_6 out0_G_7
    exact congrArg₂ Prod.mk (read_one6 _ _ (run_G ..).1) (read_one7 _ _ (run_G ..).2)

end Cert.KernelIdeal.Gen

end
-- ==== Proof.Pow2.lean ====
module

public import Idealize.ShloMosaic.PureOps.Ideal.Laws
public import Mathlib.Algebra.Ring.Int.Parity

/-! The scalar fact of this certificate: the power of two that the kernel builds from the bits of a
rounded integer is, up to the sign, the piecewise linear power of two of the reference. -/

@[expose] public section

noncomputable section

namespace Cert.Attn

open Idealize.ShloMosaic

/-- The reference's piecewise linear power of two, on the 24 bit grid of its mantissa. -/
def rp (x : EReal) : EReal :=
  max (Ideal.liftRound Ideal.roundHalfEven ((1 + (x - max (Ideal.liftRound Int.floor x) ((-126 : ℝ) : EReal))) * ((8388608 : ℝ) : EReal))
    * (((2 : ℝ) ^ (-23 : ℤ) : ℝ) : EReal)) 0 * Ideal.exp2 (max (Ideal.liftRound Int.floor x) ((-126 : ℝ) : EReal))

/-- The kernel's element: an integer made of the scaled and shifted score, read as the bits of a float. -/
def kp (y : EReal) : EReal :=
  Ideal.ofBits .f32 (Ideal.fptosi 32 (Ideal.liftRound Ideal.roundHalfEven y))

/-- The larger of two reals, as an extended real. -/
theorem coe_max' (a b : ℝ) : ((max a b : ℝ) : EReal) = max (a : EReal) (b : EReal) :=
  (EReal.coe_strictMono.monotone.map_max)

/-- Rounding commutes with adding an even integer. -/
theorem rhe_add_even (r : ℝ) (n : ℤ) (hn : Even n) : Ideal.roundHalfEven (r + n) = Ideal.roundHalfEven r + n := by
  unfold Ideal.roundHalfEven
  have h1 : r + n - (⌊r⌋ + n : ℤ) = r - ⌊r⌋ := by push_cast; ring
  simp only [Int.floor_add_intCast, h1, Int.even_add, hn, iff_true]
  split_ifs <;> ring

/-- An integer below a number is below its rounding. -/
theorem le_rhe (r : ℝ) (n : ℤ) (h : (n : ℝ) ≤ r) : n ≤ Ideal.roundHalfEven r := by
  have := Int.le_floor.2 h
  unfold Ideal.roundHalfEven
  dsimp only
  split_ifs <;> omega

/-- An integer above a number is above its rounding. -/
theorem rhe_le (r : ℝ) (n : ℤ) (h : r ≤ n) : Ideal.roundHalfEven r ≤ n := by
  have h0 := Int.floor_le r
  rcases h.lt_or_eq with h | h
  · have := Int.floor_lt.2 h
    unfold Ideal.roundHalfEven
    dsimp only
    split_ifs <;> omega
  · subst h
    simp [Ideal.roundHalfEven]

/-- The float whose bits are the sign and the number `u`, when `u` lies in the binade `e` or at its upper end. -/
theorem ofBits_neg (u : ℕ) (hu : u < 255 * 8388608) :
    Ideal.ofBits .f32 (BitVec.ofNat 32 (2147483648 + u)) =
      ((-(if u / 8388608 = 0 then (u % 8388608 : ℕ) * (2 : ℝ) ^ (-149 : ℤ)
        else ((8388608 : ℕ) + (u % 8388608 : ℕ)) * (2 : ℝ) ^ ((u / 8388608 : ℕ) - 150 : ℤ)) : ℝ) : EReal) := by
  have hs : (BitVec.ofNat 32 (2147483648 + u)).extractLsb' 31 1 = 1#1 := by
    apply BitVec.eq_of_toNat_eq
    simp [BitVec.extractLsb'_toNat, Nat.shiftRight_eq_div_pow]
    omega
  have he : ((BitVec.ofNat 32 (2147483648 + u)).extractLsb' 23 8).toNat = u / 8388608 := by
    simp [BitVec.extractLsb'_toNat, Nat.shiftRight_eq_div_pow]
    omega
  have hf : ((BitVec.ofNat 32 (2147483648 + u)).extractLsb' 0 23).toNat = u % 8388608 := by
    simp [BitVec.extractLsb'_toNat, Nat.shiftRight_eq_div_pow]
    omega
  have hlt : u / 8388608 < 255 := by omega
  simp only [Ideal.ofBits, Ideal.ieee]
  rw [hs, he, hf]
  have h255 : ¬ (u / 8388608 = 2 ^ 8 - 1) := by omega
  simp only [beq_self_eq_true, if_true, if_neg h255]
  rw [show ((2 : ℤ) ^ (8 - 1) - 1) = 127 by norm_num]
  split_ifs with h
  · congr 1
    norm_num
  · congr 1
    push_cast
    rw [show ((u : ℤ) / 8388608) - 127 - 23 = (u : ℤ) / 8388608 - 150 by ring]
    norm_num
    ring

/-- The same value from any binade that holds `u` or ends at it. -/
theorem ofBits_neg_binade (u e : ℕ) (he : 1 ≤ e) (he' : e ≤ 200) (hl : e * 8388608 ≤ u) (hr : u ≤ (e + 1) * 8388608) :
    Ideal.ofBits .f32 (BitVec.ofNat 32 (2147483648 + u)) =
      ((-((8388608 + ((u : ℝ) - e * 8388608)) * (2 : ℝ) ^ ((e : ℤ) - 150)) : ℝ) : EReal) := by
  rw [ofBits_neg u (by omega)]
  congr 2
  rcases hr.lt_or_eq with h | h
  · have h1 : u / 8388608 = e := by omega
    have h2 : ((u % 8388608 : ℕ) : ℝ) = u - e * 8388608 := by
      have : u % 8388608 + e * 8388608 = u := by omega
      rw [eq_sub_iff_add_eq]; exact_mod_cast this
    rw [if_neg (by omega), h1, h2]
    norm_num
  · have h1 : u / 8388608 = e + 1 := by omega
    have h2 : u % 8388608 = 0 := by omega
    rw [if_neg (by omega), h1, h2, h]
    push_cast
    rw [show ((e : ℤ) + 1 - 150) = ((e : ℤ) - 150) + 1 by ring, zpow_add₀ (by norm_num), zpow_one]
    ring

/-- … and below the first binade (or at its start) the value is linear. -/
theorem ofBits_neg_low (u : ℕ) (hr : u ≤ 8388608) :
    Ideal.ofBits .f32 (BitVec.ofNat 32 (2147483648 + u)) = ((-(u * (2 : ℝ) ^ (-149 : ℤ)) : ℝ) : EReal) := by
  rcases hr.lt_or_eq with h | h
  · rw [ofBits_neg u (by omega), if_pos (by omega), Nat.mod_eq_of_lt h]
  · subst h
    rw [ofBits_neg _ (by omega), if_neg (by norm_num)]
    norm_num

/-- The bits the kernel makes of a shifted rounded number that is not positive. -/
theorem bits_eq (R : ℤ) (hR : R ≤ 0) :
    Ideal.fptosi 32 (((R - 129 * 8388608 : ℤ) : ℝ) : EReal) = BitVec.ofNat 32 (2147483648 + (R + 127 * 8388608).toNat) := by
  unfold Ideal.fptosi
  rw [Ideal.toIntClamped_coe]
  simp only [Int.floor_intCast, Int.ceil_intCast, ite_self]
  rw [← BitVec.ofInt_natCast]
  apply BitVec.eq_of_toInt_eq
  rw [BitVec.toInt_ofInt, BitVec.toInt_ofInt]
  have : (((2147483648 + (R + 127 * 8388608).toNat : ℕ)) : ℤ)
      = max (-((2 ^ (32 - 1) : ℕ) : ℤ)) (min (((2 ^ (32 - 1) : ℕ) : ℤ) - 1) (R - 129 * 8388608)) + ((2 ^ 32 : ℕ) : ℤ) := by
    push_cast
    omega
  rw [this, Int.add_bmod_right]

/-- What the kernel's element is at a real number that is not positive. -/
theorem kp_eq_neg_rp_real (x : ℝ) (hx : x ≤ 0) :
    kp ((x * 8388608 - 129 * 8388608 : ℝ) : EReal) = -rp (x : EReal) := by
  unfold kp rp
  have hE : Even (-(129 * 8388608) : ℤ) := by decide
  have hk : Ideal.liftRound Ideal.roundHalfEven ((x * 8388608 - 129 * 8388608 : ℝ) : EReal)
      = (((Ideal.roundHalfEven (x * 8388608) - 129 * 8388608 : ℤ) : ℝ) : EReal) := by
    rw [Ideal.liftRound_coe]
    congr 2
    have := rhe_add_even (x * 8388608) (-(129 * 8388608)) hE
    rw [show x * 8388608 - 129 * 8388608 = x * 8388608 + ((-(129 * 8388608) : ℤ) : ℝ) by push_cast; ring, this]
    ring
  rw [hk]
  set R : ℤ := Ideal.roundHalfEven (x * 8388608) with hRdef
  have hR0 : R ≤ 0 := rhe_le _ 0 (by push_cast; linarith)
  rw [bits_eq R hR0]
  have hf := Int.floor_le x
  have hf' := Int.lt_floor_add_one x
  have hN0 : ⌊x⌋ ≤ 0 := Int.floor_nonpos hx
  set N : ℤ := ⌊x⌋ with hN
  have hRl : N * 8388608 ≤ R := le_rhe _ _ (by push_cast; linarith)
  have hRu : R ≤ (N + 1) * 8388608 := rhe_le _ _ (by push_cast; linarith)
  have hmax : max (Ideal.liftRound Int.floor (x : EReal)) ((-126 : ℝ) : EReal) = (((max N (-126) : ℤ) : ℝ) : EReal) := by
    rw [Ideal.liftRound_coe, ← coe_max']
    push_cast; rfl
  rw [hmax]
  set n : ℤ := max N (-126) with hn
  have hround : Ideal.liftRound Ideal.roundHalfEven ((1 + ((x : EReal) - ((n : ℝ) : EReal))) * ((8388608 : ℝ) : EReal))
      = (((R + (1 - n) * 8388608 : ℤ) : ℝ) : EReal) := by
    have : (1 + ((x : EReal) - ((n : ℝ) : EReal))) * ((8388608 : ℝ) : EReal)
        = ((x * 8388608 + (((1 - n) * 8388608 : ℤ) : ℝ) : ℝ) : EReal) := by
      rw [← EReal.coe_one, ← EReal.coe_sub, ← EReal.coe_add, ← EReal.coe_mul]
      congr 1
      push_cast; ring
    rw [this, Ideal.liftRound_coe, rhe_add_even _ _ (Even.mul_left (by decide) _)]
  rw [hround, ← EReal.coe_mul, ← EReal.coe_zero, ← coe_max',
    show Ideal.exp2 (((n : ℤ) : ℝ) : EReal) = (((2 : ℝ) ^ n : ℝ) : EReal) from by
      show ((Real.rpow 2 (n : ℝ) : ℝ) : EReal) = _
      rw [Real.rpow_eq_pow, Real.rpow_intCast],
    ← EReal.coe_mul, ← EReal.coe_neg]
  have h2 : (0 : ℝ) < (2 : ℝ) ^ (-23 : ℤ) := by positivity
  by_cases hc : -126 ≤ N
  · have hnN : n = N := by omega
    obtain ⟨e, he⟩ : ∃ e : ℕ, (e : ℤ) = N + 127 := ⟨(N + 127).toNat, by omega⟩
    have hu : (((R + 127 * 8388608).toNat : ℕ) : ℤ) = R + 127 * 8388608 := by omega
    rw [ofBits_neg_binade _ e (by omega) (by omega) (by zify; rw [hu]; nlinarith) (by zify; rw [hu]; nlinarith)]
    congr 2
    have hu' : (((R + 127 * 8388608).toNat : ℕ) : ℝ) = R + 127 * 8388608 := by exact_mod_cast hu
    have he' : (e : ℝ) = N + 127 := by exact_mod_cast he
    have hmx : (0 : ℝ) ≤ ((R + (1 - N) * 8388608 : ℤ) : ℝ) * (2 : ℝ) ^ (-23 : ℤ) := by
      apply mul_nonneg _ h2.le
      exact_mod_cast (by nlinarith : (0 : ℤ) ≤ R + (1 - N) * 8388608)
    rw [hu', he', he, hnN, max_eq_left hmx,
      show N + 127 - 150 = -23 + N by ring, zpow_add₀ (by norm_num)]
    push_cast
    ring
  · have hnN : n = -126 := by omega
    rw [ofBits_neg_low _ (by omega)]
    congr 2
    have hmx : max (((R + (1 - n) * 8388608 : ℤ) : ℝ) * (2 : ℝ) ^ (-23 : ℤ)) 0
        = (((R + 127 * 8388608).toNat : ℕ) : ℝ) * (2 : ℝ) ^ (-23 : ℤ) := by
      have h1 : (((R + 127 * 8388608).toNat : ℕ) : ℝ) = max ((R + (1 - n) * 8388608 : ℤ) : ℝ) 0 := by
        have : (((R + 127 * 8388608).toNat : ℕ) : ℤ) = max (R + (1 - n) * 8388608) 0 := by rw [hnN]; omega
        exact_mod_cast this
      rw [h1, max_mul_of_nonneg _ _ h2.le, zero_mul]
    rw [hmx, hnN, mul_assoc, ← zpow_add₀ (by norm_num)]
    norm_num

/-- `kp` at the lowest number is zero. -/
theorem kp_bot : kp ⊥ = 0 := by
  have : Ideal.fptosi 32 (Ideal.liftRound Ideal.roundHalfEven ⊥) = BitVec.ofNat 32 (2147483648 + 0) := by
    simp [Ideal.fptosi]
  unfold kp
  rw [this, ofBits_neg_low 0 (by norm_num)]
  simp

/-- `rp` at the lowest number is zero. -/
theorem rp_bot : rp ⊥ = 0 := by
  unfold rp
  have h : ((1 : EReal) + (⊥ - max (Ideal.liftRound Int.floor ⊥) ((-126 : ℝ) : EReal))) * ((8388608 : ℝ) : EReal) = ⊥ := by
    rw [Ideal.liftRound_bot, max_eq_right bot_le, sub_eq_add_neg, EReal.bot_add, EReal.add_bot, EReal.bot_mul_coe_of_pos (by norm_num)]
  rw [h, Ideal.liftRound_bot, EReal.bot_mul_coe_of_pos (by positivity), max_eq_right bot_le, zero_mul]

/-- `rp` of a number that is not positive is a real that is not negative. -/
theorem rp_real (x : EReal) (hx : x ≤ 0) : ∃ p : ℝ, 0 ≤ p ∧ rp x = (p : EReal) := by
  induction x with
  | bot => exact ⟨0, le_refl _, by rw [rp_bot]; rfl⟩
  | top => exact absurd hx (by simp)
  | coe r =>
    have hmax : max (Ideal.liftRound Int.floor (r : EReal)) ((-126 : ℝ) : EReal) = (((max ⌊r⌋ (-126) : ℤ) : ℝ) : EReal) := by
      rw [Ideal.liftRound_coe, ← coe_max']
      push_cast; rfl
    unfold rp
    rw [hmax, ← EReal.coe_one, ← EReal.coe_sub, ← EReal.coe_add, ← EReal.coe_mul, Ideal.liftRound_coe, ← EReal.coe_mul,
      ← EReal.coe_zero, ← coe_max']
    refine ⟨_, ?_, (EReal.coe_mul _ _).symm⟩
    exact mul_nonneg (le_max_right _ _) (Real.rpow_nonneg (by norm_num) _)

/-- The kernel's element of a score `a` (a dot product times its scales) against the row's rounded
up maximum `m`: minus the reference's weight. -/
theorem kp_score (a m : EReal) (ham : a ≤ m) :
    kp (a * ((8388608 : ℝ) : EReal) - (m + ((129 : ℝ) : EReal)) * ((8388608 : ℝ) : EReal)) = -rp (a - m) := by
  have hbot : ∀ y x : EReal, y = ⊥ → x = ⊥ → kp y = -rp x := by
    rintro y x rfl rfl; rw [kp_bot, rp_bot, neg_zero]
  induction m with
  | bot =>
    have : a = ⊥ := le_bot_iff.1 ham
    subst this
    apply hbot
    · rw [EReal.bot_mul_coe_of_pos (by norm_num)]; rfl
    · rfl
  | top =>
    apply hbot
    · rw [EReal.top_add_coe, EReal.top_mul_coe_of_pos (by norm_num), sub_eq_add_neg, EReal.neg_top, EReal.add_bot]
    · rw [sub_eq_add_neg, EReal.neg_top, EReal.add_bot]
  | coe m =>
    induction a with
    | bot =>
      apply hbot
      · rw [EReal.bot_mul_coe_of_pos (by norm_num), sub_eq_add_neg, EReal.bot_add]
      · rw [sub_eq_add_neg, EReal.bot_add]
    | top => exact absurd ham (by simp)
    | coe a =>
      have := kp_eq_neg_rp_real (a - m) (sub_nonpos.2 (EReal.coe_le_coe_iff.1 ham))
      rw [← EReal.coe_mul, ← EReal.coe_add, ← EReal.coe_mul, ← EReal.coe_sub, ← EReal.coe_sub, ← this]
      congr 2
      ring

end Cert.Attn

end
-- ==== Proof.Row.lean ====
module

public import proofs.«01_k».proof.Proof.Pow2

/-! One row of causal attention, as mathematics: a row has scores `a j` for keys `j`, sees the keys `j ≤ t`, and gives a
weighted mean and the logarithm of its weights' sum. The kernel walks the keys in blocks of 128 and folds the scales
into the blocks; this module shows that it computes the same row. -/

@[expose] public section

noncomputable section

namespace Cert.Attn

open Idealize.ShloMosaic Finset

/-- The row's maximum over the keys it sees, rounded up. -/
def rowM (a : ℕ → EReal) (t : ℕ) : EReal := Ideal.liftRound Int.ceil ((range (t + 1)).sup a)

/-- The weight of key `j`. -/
def rowW (a : ℕ → EReal) (t j : ℕ) : EReal := rp (a j - rowM a t)

/-- The sum of the weights. -/
def rowL (a : ℕ → EReal) (t : ℕ) : EReal := ∑ j ∈ range (t + 1), rowW a t j

/-- The sum of the values under the negated weights. -/
def rowA (a : ℕ → EReal) (t : ℕ) (v : ℕ → EReal) : EReal := ∑ j ∈ range (t + 1), -rowW a t j * v j

/-- The row's output for one channel of the values. -/
def rowO (a : ℕ → EReal) (t : ℕ) (v : ℕ → EReal) (vs : EReal) : EReal := Ideal.div (-rowA a t v * vs) (rowL a t)

/-- The logarithm of two. -/
def ln2 : EReal := Ideal.log (Ideal.ofBits .f32 0x40000000#32)

/-- The row's base two logarithm of the weights' sum, less that of the number `n` of keys seen. -/
def rowLse (a : ℕ → EReal) (t : ℕ) (n : EReal) : EReal :=
  rowM a t + Ideal.div (Ideal.log (rowL a t)) ln2 - Ideal.div (Ideal.log n) ln2

/-- A number is at most itself rounded up. -/
theorem le_ceil (x : EReal) : x ≤ Ideal.liftRound Int.ceil x := by
  induction x with
  | bot => exact bot_le
  | top => exact le_of_eq rfl
  | coe r => rw [Ideal.liftRound_coe]; exact EReal.coe_le_coe_iff.2 (Int.le_ceil r)

/-- A visible score is at most the rounded maximum. -/
theorem le_rowM (a : ℕ → EReal) (t j : ℕ) (h : j ≤ t) : a j ≤ rowM a t :=
  (le_sup (f := a) (mem_range.2 (Nat.lt_succ_of_le h))).trans (le_ceil _)

theorem sub_nonpos_of_le (a m : EReal) (h : a ≤ m) : a - m ≤ 0 ∨ a - m = ⊥ := by
  induction m with
  | bot => rw [le_bot_iff.1 h]; right; rfl
  | top => right; rw [sub_eq_add_neg, EReal.neg_top, EReal.add_bot]
  | coe m =>
    induction a with
    | bot => right; rw [sub_eq_add_neg, EReal.bot_add]
    | top => exact absurd h (by simp)
    | coe a =>
      left; rw [← EReal.coe_sub, ← EReal.coe_zero, EReal.coe_le_coe_iff]
      exact sub_nonpos.2 (EReal.coe_le_coe_iff.1 h)

/-- The visible weights are reals that are not negative. -/
theorem rowW_real (a : ℕ → EReal) (t : ℕ) : ∃ w : ℕ → ℝ, ∀ j, j ≤ t → 0 ≤ w j ∧ rowW a t j = (w j : EReal) := by
  have h : ∀ j, ∃ w : ℝ, j ≤ t → 0 ≤ w ∧ rowW a t j = (w : EReal) := by
    intro j
    by_cases hj : j ≤ t
    · have hle : a j - rowM a t ≤ 0 := by
        rcases sub_nonpos_of_le _ _ (le_rowM a t j hj) with h | h
        · exact h
        · rw [h]; exact bot_le
      obtain ⟨p, hp, he⟩ := rp_real _ hle
      exact ⟨p, fun _ => ⟨hp, he⟩⟩
    · exact ⟨0, fun h => absurd h hj⟩
  choose w hw using h
  exact ⟨w, hw⟩

/-- The maximum over any larger range of keys, the unseen ones at the lowest number. -/
theorem sup_masked (a : ℕ → EReal) (t K : ℕ) (h : t < K) :
    ((range K).sup fun j => if j ≤ t then a j else ⊥) = (range (t + 1)).sup a := by
  apply le_antisymm
  · refine Finset.sup_le fun j _ => ?_
    split_ifs with hj
    · exact le_sup (f := a) (mem_range.2 (Nat.lt_succ_of_le hj))
    · exact bot_le
  · refine Finset.sup_le fun j hj => ?_
    have hj' : j ≤ t := Nat.lt_succ_iff.1 (mem_range.1 hj)
    have := le_sup (f := fun j => if j ≤ t then a j else ⊥) (mem_range.2 (lt_of_le_of_lt hj' h))
    simpa [hj'] using this

/-- A sum over any larger range of keys, the unseen ones giving zero. -/
theorem sum_masked (f : ℕ → EReal) (t K : ℕ) (h : t < K) :
    (∑ j ∈ range K, if j ≤ t then f j else 0) = ∑ j ∈ range (t + 1), f j := by
  rw [← sum_filter]
  apply sum_congr _ fun _ _ => rfl
  ext j
  simp only [mem_filter, mem_range]
  omega

/-! ## The kernel's blocks -/

/-- The fold of the maximum that a reduction over 128 keys takes. -/
def bmax (f : Fin 128 → EReal) : EReal := (univ : Finset (Fin 128)).fold max ⊥ f

theorem bmax_eq_sup (f : Fin 128 → EReal) : bmax f = univ.sup f := rfl

/-- A scale that is positive moves into the maximum. -/
theorem bmax_mul (f : Fin 128 → EReal) (c : EReal) (hc : 0 < c) : bmax f * c = univ.sup fun k => f k * c := by
  rw [bmax_eq_sup]
  exact comp_sup_eq_sup_comp_of_is_total (fun x => x * c) (fun x y h => mul_le_mul_of_nonneg_right h hc.le)
    (EReal.bot_mul_of_pos hc)

/-- The kernel's running maximum over the blocks. -/
def kMax (s : ℕ → ℕ → EReal) (c : ℕ → EReal) : ℕ → EReal
  | 0 => bmax (fun k => s 0 k) * c 0
  | n + 1 => max (kMax s c n) (bmax (fun k => s (n + 1) k) * c (n + 1))

/-- A supremum over `n + 1` blocks of 128 is that over `n` blocks and that over the last one. -/
theorem sup_range_block (f : ℕ → EReal) (n : ℕ) :
    (range (128 * (n + 1))).sup f = max ((range (128 * n)).sup f) (univ.sup fun k : Fin 128 => f (128 * n + k)) := by
  apply le_antisymm
  · refine Finset.sup_le fun j hj => ?_
    by_cases h : j < 128 * n
    · exact le_max_of_le_left (le_sup (f := f) (mem_range.2 h))
    · have hj' := mem_range.1 hj
      have := le_sup (f := fun k : Fin 128 => f (128 * n + k)) (mem_univ (⟨j - 128 * n, by omega⟩ : Fin 128))
      refine le_max_of_le_right (le_trans (le_of_eq ?_) this)
      show f j = f (128 * n + (j - 128 * n))
      congr 1; omega
  · refine max_le (Finset.sup_mono fun j hj => ?_) (Finset.sup_le fun k _ => ?_)
    · have := mem_range.1 hj
      exact mem_range.2 (by omega)
    · exact le_sup (f := f) (mem_range.2 (by omega))

/-- The scores that a row's blocks hold: `d` where the key is seen, the lowest number elsewhere. -/
structure Blocks (a : ℕ → EReal) (t n : ℕ) (s : ℕ → ℕ → EReal) (c : ℕ → EReal) : Prop where
  lo : 128 * n ≤ t
  hi : t < 128 * (n + 1)
  pos : ∀ j, j ≤ n → 0 < c j
  seen : ∀ j, j ≤ n → ∀ k, k < 128 → 128 * j + k ≤ t → s j k * c j = a (128 * j + k)
  unseen : ∀ j, j ≤ n → ∀ k, k < 128 → ¬128 * j + k ≤ t → s j k = ⊥

variable {a : ℕ → EReal} {t n : ℕ} {s : ℕ → ℕ → EReal} {c : ℕ → EReal}

theorem Blocks.mul (H : Blocks a t n s c) (j : ℕ) (hj : j ≤ n) (k : ℕ) (hk : k < 128) :
    s j k * c j = if 128 * j + k ≤ t then a (128 * j + k) else ⊥ := by
  split_ifs with h
  · exact H.seen j hj k hk h
  · rw [H.unseen j hj k hk h, EReal.bot_mul_of_pos (H.pos j hj)]

theorem Blocks.kMax_range (H : Blocks a t n s c) : ∀ p, p ≤ n →
    kMax s c p = (range (128 * (p + 1))).sup fun j => if j ≤ t then a j else ⊥
  | 0, hp => by
    rw [sup_range_block, kMax, bmax_mul _ _ (H.pos 0 hp)]
    have : (fun k : Fin 128 => s 0 k * c 0) = fun k : Fin 128 => if 128 * 0 + k ≤ t then a (128 * 0 + k) else ⊥ :=
      funext fun k => H.mul 0 hp k k.isLt
    rw [this]
    simp
  | p + 1, hp => by
    rw [sup_range_block, kMax, bmax_mul _ _ (H.pos _ hp), H.kMax_range p (by omega)]
    congr 2
    exact funext fun k => H.mul _ hp k k.isLt

/-- The kernel's maximum, rounded up, is the row's. -/
theorem Blocks.ceil_kMax (H : Blocks a t n s c) : Ideal.liftRound Int.ceil (kMax s c n) = rowM a t := by
  rw [H.kMax_range n le_rfl, sup_masked _ _ _ H.hi, rowM]

/-- The kernel's weight of key `k` of block `j`. -/
def kP (s : ℕ → ℕ → EReal) (c : ℕ → EReal) (m : EReal) (j k : ℕ) : EReal :=
  kp (s j k * (c j * ((8388608 : ℝ) : EReal)) - (m + ((129 : ℝ) : EReal)) * ((8388608 : ℝ) : EReal))

/-- The kernel's weight is minus the row's, and zero for a key that is not seen. -/
theorem Blocks.kP_eq (H : Blocks a t n s c) (j : ℕ) (hj : j ≤ n) (k : ℕ) (hk : k < 128) :
    kP s c (rowM a t) j k = if 128 * j + k ≤ t then -rowW a t (128 * j + k) else 0 := by
  unfold kP
  split_ifs with h
  · rw [← mul_assoc, H.seen j hj k hk h, kp_score _ _ (le_rowM a t _ h)]
    rfl
  · rw [H.unseen j hj k hk h, EReal.bot_mul_of_pos, sub_eq_add_neg, EReal.bot_add, kp_bot]
    exact EReal.mul_pos (H.pos j hj) (by exact_mod_cast (by norm_num : (0 : ℝ) < 8388608))

/-- A sum over `n` blocks of 128 is the sum over the keys. -/
theorem sum_blocks (f : ℕ → EReal) : ∀ n : ℕ,
    (∑ j ∈ range n, ∑ k : Fin 128, f (128 * j + k)) = ∑ i ∈ range (128 * n), f i
  | 0 => by simp
  | n + 1 => by
    rw [sum_range_succ, sum_blocks f n, show 128 * (n + 1) = 128 * n + 128 by ring, sum_range_add, sum_range (fun x => f (128 * n + x))]

/-- The sum of the kernel's weights is minus the row's. -/
theorem Blocks.sum_kP (H : Blocks a t n s c) :
    (∑ j ∈ range (n + 1), ∑ k : Fin 128, kP s c (rowM a t) j k) = ∑ i ∈ range (t + 1), -rowW a t i := by
  rw [← sum_masked (fun i => -rowW a t i) t _ H.hi, ← sum_blocks]
  refine sum_congr rfl fun j hj => sum_congr rfl fun k _ => ?_
  exact H.kP_eq j (Nat.lt_succ_iff.1 (mem_range.1 hj)) k k.isLt

/-- The kernel's weighted sum of values is the row's. -/
theorem Blocks.sum_kP_mul (H : Blocks a t n s c) (v : ℕ → EReal) :
    (∑ j ∈ range (n + 1), ∑ k : Fin 128, v (128 * j + k) * kP s c (rowM a t) j k) = rowA a t v := by
  rw [rowA, ← sum_masked (fun i => -rowW a t i * v i) t _ H.hi, ← sum_blocks]
  refine sum_congr rfl fun j hj => sum_congr rfl fun k _ => ?_
  rw [H.kP_eq j (Nat.lt_succ_iff.1 (mem_range.1 hj)) k k.isLt]
  split_ifs
  · rw [mul_comm]
  · rw [mul_zero]

theorem coe_sum' (w : ℕ → ℝ) (A : Finset ℕ) : ((∑ j ∈ A, w j : ℝ) : EReal) = ∑ j ∈ A, (w j : EReal) := by
  induction A using Finset.induction_on with
  | empty => rfl
  | insert x A hx ih => rw [sum_insert hx, sum_insert hx, EReal.coe_add, ih]

/-- The sum of the negated weights is minus the sum of the weights. -/
theorem sum_neg_rowW (a : ℕ → EReal) (t : ℕ) : (∑ i ∈ range (t + 1), -rowW a t i) = -rowL a t := by
  obtain ⟨w, hw⟩ := rowW_real a t
  have h1 : (∑ i ∈ range (t + 1), -rowW a t i) = ∑ i ∈ range (t + 1), ((-w i : ℝ) : EReal) :=
    sum_congr rfl fun i hi => by rw [(hw i (Nat.lt_succ_iff.1 (mem_range.1 hi))).2, EReal.coe_neg]
  have h2 : rowL a t = ∑ i ∈ range (t + 1), ((w i : ℝ) : EReal) :=
    sum_congr rfl fun i hi => (hw i (Nat.lt_succ_iff.1 (mem_range.1 hi))).2
  rw [h1, h2, ← coe_sum', ← coe_sum', ← EReal.coe_neg, sum_neg_distrib]

/-- If the weights' sum is zero, so is every weighted sum. -/
theorem rowA_eq_zero (a : ℕ → EReal) (t : ℕ) (v : ℕ → EReal) (h : rowL a t = 0) : rowA a t v = 0 := by
  obtain ⟨w, hw⟩ := rowW_real a t
  have h2 : rowL a t = ∑ i ∈ range (t + 1), ((w i : ℝ) : EReal) :=
    sum_congr rfl fun i hi => (hw i (Nat.lt_succ_iff.1 (mem_range.1 hi))).2
  rw [h2, ← coe_sum', ← EReal.coe_zero, EReal.coe_eq_coe_iff,
    sum_eq_zero_iff_of_nonneg (fun i hi => (hw i (Nat.lt_succ_iff.1 (mem_range.1 hi))).1)] at h
  refine sum_eq_zero fun i hi => ?_
  rw [(hw i (Nat.lt_succ_iff.1 (mem_range.1 hi))).2, h i hi, EReal.coe_zero, neg_zero, zero_mul]

/-- A quotient of two numbers is that of the two negated ones, but for a zero divisor. -/
theorem div_neg_neg (x y : EReal) (hy : y = 0 → x = 0) : Ideal.div x (-y) = Ideal.div (-x) y := by
  unfold Ideal.div
  by_cases h : y = 0
  · rw [h, hy h]; simp
  · rw [if_neg h, if_neg (by rwa [EReal.neg_eq_zero_iff]), EReal.inv_neg, mul_neg, neg_mul]

/-- The kernel's output is the row's. -/
theorem kernel_rowO (a : ℕ → EReal) (t : ℕ) (v : ℕ → EReal) (vs : EReal) :
    Ideal.div (rowA a t v * vs) (-rowL a t) = rowO a t v vs := by
  rw [div_neg_neg, rowO, neg_mul]
  intro h
  rw [rowA_eq_zero a t v h, zero_mul]

/-! ## The order in which the kernel adds -/

/-- Sublane `r` of the running sum of weights: each block adds its 16 keys `8 g + r`. -/
def kLneg (P : ℕ → ℕ → EReal) (r : ℕ) : ℕ → EReal
  | 0 => 0 + ∑ g : Fin 16, P 0 (8 * g + r)
  | n + 1 => kLneg P r n + ∑ g : Fin 16, P (n + 1) (8 * g + r)

/-- 16 groups of 8 are 128. -/
theorem sum_16_8 (f : ℕ → EReal) : (∑ r : Fin 8, ∑ g : Fin 16, f (8 * g + r)) = ∑ k : Fin 128, f k := by
  rw [sum_comm, ← Fintype.sum_prod_type', ← Equiv.sum_comp (finProdFinEquiv : Fin 16 × Fin 8 ≃ Fin 128)]
  refine Fintype.sum_congr _ _ fun x => ?_
  congr 1
  simp [finProdFinEquiv]
  ring

/-- The eight sublanes add up to the sum over all keys. -/
theorem sum_kLneg (P : ℕ → ℕ → EReal) : ∀ n : ℕ,
    (∑ r : Fin 8, kLneg P r n) = ∑ j ∈ range (n + 1), ∑ k : Fin 128, P j k
  | 0 => by simp only [kLneg, zero_add]; rw [sum_16_8 (P 0)]; simp
  | n + 1 => by
    simp only [kLneg]
    rw [sum_add_distrib, sum_kLneg P n, sum_16_8 (P (n + 1)), sum_range_succ _ (n + 1)]

/-- What a pair of blocks adds: 256 keys at once. -/
def kPair (P : ℕ → ℕ → EReal) (v : ℕ → EReal) (q : ℕ) : EReal :=
  ∑ k : Fin 256, v (256 * q + k) * (if (k : ℕ) < 128 then P (2 * q) k else P (2 * q + 1) (k - 128))

/-- The running weighted sum after `p` pairs. -/
def kAcc (P : ℕ → ℕ → EReal) (v : ℕ → EReal) : ℕ → EReal
  | 0 => 0
  | p + 1 => kAcc P v p + kPair P v p

/-- A pair of blocks adds its two blocks. -/
theorem kPair_eq (P : ℕ → ℕ → EReal) (v : ℕ → EReal) (q : ℕ) :
    kPair P v q = (∑ k : Fin 128, v (128 * (2 * q) + k) * P (2 * q) k) + ∑ k : Fin 128, v (128 * (2 * q + 1) + k) * P (2 * q + 1) k := by
  unfold kPair
  rw [Fin.sum_univ_add (a := 128) (b := 128) (fun k : Fin (128 + 128) => v (256 * q + k) * (if (k : ℕ) < 128 then P (2 * q) k else P (2 * q + 1) (k - 128)))]
  congr 1
  · refine Fintype.sum_congr _ _ fun k => ?_
    rw [Fin.val_castAdd, if_pos k.isLt, show 256 * q = 128 * (2 * q) by ring]
  · refine Fintype.sum_congr _ _ fun k => ?_
    rw [Fin.val_natAdd, if_neg (by omega), Nat.add_sub_cancel_left, show 256 * q + (128 + (k : ℕ)) = 128 * (2 * q + 1) + k by ring]

theorem kAcc_eq (P : ℕ → ℕ → EReal) (v : ℕ → EReal) : ∀ p : ℕ,
    kAcc P v p = ∑ j ∈ range (2 * p), ∑ k : Fin 128, v (128 * j + k) * P j k
  | 0 => by simp [kAcc]
  | p + 1 => by
    rw [kAcc, kAcc_eq P v p, kPair_eq, show 2 * (p + 1) = 2 * p + 1 + 1 by ring, sum_range_succ, sum_range_succ, add_assoc]

/-- The kernel's weighted sum over `n + 1` blocks: the full pairs, then a last block by itself when `n` is even. -/
def kAccN (P : ℕ → ℕ → EReal) (v : ℕ → EReal) (n : ℕ) : EReal :=
  if n % 2 = 0 then kAcc P v (n / 2) + ∑ k : Fin 128, v (128 * n + k) * P n k else kAcc P v (n / 2 + 1)

theorem kAccN_eq (P : ℕ → ℕ → EReal) (v : ℕ → EReal) (n : ℕ) :
    kAccN P v n = ∑ j ∈ range (n + 1), ∑ k : Fin 128, v (128 * j + k) * P j k := by
  unfold kAccN
  split_ifs with h
  · rw [kAcc_eq, show 2 * (n / 2) = n by omega, sum_range_succ]
  · rw [kAcc_eq, show 2 * (n / 2 + 1) = n + 1 by omega]

/-- What the kernel stores for a row and a channel is the row's output. -/
theorem Blocks.out (H : Blocks a t n s c) (v : ℕ → EReal) (vs : EReal) :
    Ideal.div (kAccN (kP s c (Ideal.liftRound Int.ceil (kMax s c n))) v n * vs)
      (0 - (0 - ∑ r : Fin 8, kLneg (kP s c (Ideal.liftRound Int.ceil (kMax s c n))) r n)) = rowO a t v vs := by
  rw [H.ceil_kMax, kAccN_eq, sum_kLneg, H.sum_kP, H.sum_kP_mul, sum_neg_rowW, zero_sub, zero_sub, neg_neg, kernel_rowO]

/-- What the kernel stores for a row's logarithm is the row's. -/
theorem Blocks.lse (H : Blocks a t n s c) (N : EReal) :
    Ideal.liftRound Int.ceil (kMax s c n)
      + Ideal.div (Ideal.log (0 - ∑ r : Fin 8, kLneg (kP s c (Ideal.liftRound Int.ceil (kMax s c n))) r n)) ln2
      - Ideal.div (Ideal.log N) ln2 = rowLse a t N := by
  rw [H.ceil_kMax, sum_kLneg, H.sum_kP, sum_neg_rowW, zero_sub, neg_neg, rowLse]

end Cert.Attn

end
-- ==== Proof.TileIdeal.lean ====
module

public import proofs.«01_k».proof.Proof.Tile
public import proofs.«01_k».proof.Proof.Row
public import Idealize.ShloMosaic.Lib.MatmulPlain
public import Idealize.ShloMosaic.Lib.ValueLayout
public import Idealize.ShloMosaic.PureOps.Ideal.Laws

/-! The vector expressions of `Tile.lean` in exact arithmetic, read at one lane: what a grid point stores for a row is the row's
softmax of `Row.lean`. -/

@[expose] public section

noncomputable section

namespace Cert.KernelIdeal.Gen

open Idealize.ShloMosaic Idealize.SL.Sem Idealize.ShloMosaic.ValueIdx Cert.Attn

/-- A row number below 128 from any number. -/
def f128 (k : ℕ) : Fin 128 := ⟨k % 128, Nat.mod_lt _ (by omega)⟩

theorem f128_val (k : Fin 128) : f128 k.val = k := Fin.ext (Nat.mod_eq_of_lt k.isLt)

/-- A lane of a family of blocks, by block and row. -/
def lane (s : ℕ → FVec Ideal S128x384 .f32) (r : Fin 384) (j k : ℕ) : EReal := s j (ix2 (f128 k) r)

theorem ofBits_23 : Ideal.ofBits .f32 0x4B000000#32 = ((8388608 : ℝ) : EReal) := by
  simp [Ideal.ofBits, Ideal.ieee]

theorem ofBits_129 : Ideal.ofBits .f32 0x43010000#32 = ((129 : ℝ) : EReal) := by
  simp [Ideal.ofBits, Ideal.ieee]
  rw [← EReal.coe_mul]
  norm_num

theorem ofBits_bot : Ideal.ofBits .f32 0xFF800000#32 = ⊥ := by
  simp [Ideal.ofBits, Ideal.ieee]

section
variable (x0 : Vec Ideal S1x1x384x160 .fp8e4m3) (x1 : Vec Ideal S1x1x896x160 .fp8e4m3) (x2 : Vec Ideal S1x1x160x896 .fp8e4m3)
  (x3 : Vec Ideal S1x1x1x1x384 .f32)

/-- A block of keys reads the keys from its first one on. -/
theorem kBlk_apply (j : ℕ) (k : Fin 128) (d : Fin 160) :
    kBlk x1 j (ix4 (0 : Fin 1) (0 : Fin 1) k d)
      = x1 (ix4 (0 : Fin 1) (0 : Fin 1) (⟨128 * (j % 7) + k.val, by have := Nat.mod_lt j (show 0 < 7 by omega); omega⟩ : Fin 896) d) := by
  refine View.ld_unit_apply_of _ _ _ _ _ _ fun a => ?_
  fin_cases a
  · rfl
  · rfl
  · rfl
  · show d.val = 0 + d.val; omega

/-- A pair's values. -/
theorem vPair_apply (p : ℕ) (d : Fin 160) (k : Fin 256) :
    vPair x2 p (ix4 (0 : Fin 1) (0 : Fin 1) d k)
      = x2 (ix4 (0 : Fin 1) (0 : Fin 1) d (⟨256 * (p % 3) + k.val, by have := Nat.mod_lt p (show 0 < 3 by omega); omega⟩ : Fin 896)) := by
  refine View.ld_unit_apply_of _ _ _ _ _ _ fun a => ?_
  fin_cases a
  · rfl
  · rfl
  · show d.val = 0 + d.val; omega
  · rfl

/-- A single block's values. -/
theorem vOne_apply (j : ℕ) (d : Fin 160) (k : Fin 128) :
    vOne x2 j (ix4 (0 : Fin 1) (0 : Fin 1) d k)
      = x2 (ix4 (0 : Fin 1) (0 : Fin 1) d (⟨128 * (j % 7) + k.val, by have := Nat.mod_lt j (show 0 < 7 by omega); omega⟩ : Fin 896)) := by
  refine View.ld_unit_apply_of _ _ _ _ _ _ fun a => ?_
  fin_cases a
  · rfl
  · rfl
  · show d.val = 0 + d.val; omega
  · rfl

/-- Two leading unit axes dropped. -/
theorem cast_11ab {α : Type} {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- Three leading unit axes dropped. -/
theorem cast_111ab {α : Type} {a b : ℕ} (x : (⟨5, ![1, 1, 1, a, b]⟩ : Shape).Idx → α) (h : (⟨5, ![1, 1, 1, a, b]⟩ : Shape).ShapeCasts ⟨2, ![a, b]⟩)
    (i : Fin a) (j : Fin b) : shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp)

/-- Three leading unit axes added. -/
theorem cast_ab_111ab {α : Type} {a b : ℕ} (x : (⟨2, ![a, b]⟩ : Shape).Idx → α) (h : (⟨2, ![a, b]⟩ : Shape).ShapeCasts ⟨5, ![1, 1, 1, a, b]⟩)
    (i : Fin a) (j : Fin b) : shapeCast ⟨5, ![1, 1, 1, a, b]⟩ x h (ix5 (0 : Fin 1) (0 : Fin 1) (0 : Fin 1) i j) = x (ix2 i j) :=
  shapeCast_apply x h _ _ (by
    rw [Shape.rowMajor_val_five, Shape.rowMajor_val_two]
    show i.val * b + j.val = (((0 * 1 + 0) * 1 + 0) * a + i.val) * b + j.val
    simp)

/-- A score before scales is the product of a key and a query. -/
theorem tS_apply (k : Vec Ideal S1x1x128x160 .fp8e4m3) (kk : Fin 128) (r : Fin 384) :
    tS x0 k (ix2 kk r) = ∑ d : Fin 160, k (ix4 (0 : Fin 1) (0 : Fin 1) kk d) * x0 (ix4 (0 : Fin 1) (0 : Fin 1) r d) := by
  unfold tS
  simp only [matmul]
  refine (Ideal.matmul_transposedRhs_apply none _ _ _ kk r).trans ?_
  rw [show (constant S128x384 .f32 0x00000000#32 : FVec Ideal S128x384 .f32) (ix2 kk r) = 0 from Ideal.ofBits_zero_f32, zero_add]
  exact Finset.sum_congr rfl fun d _ => congrArg₂ (· * ·) (cast_11ab k _ kk d) (cast_11ab x0 _ r d)

theorem mask_word : ∀ k : Fin 128, ∀ r : Fin 384,
    (Scalar.cmpi .sle (BitVec.ofNat 32 k.val * 3#32) (BitVec.ofNat 32 r.val) = 1#1 ↔ 3 * k.val ≤ r.val) := by
  intro k r
  have hk := k.isLt
  have hr := r.isLt
  have h1 : (BitVec.ofNat 32 k.val * 3#32).toInt = 3 * k.val := by
    rw [BitVec.toInt_mul, BitVec.toInt_ofNat', show (3#32).toInt = 3 from rfl]
    simp only [Int.bmod_def]
    omega
  have h2 : (BitVec.ofNat 32 r.val).toInt = r.val := by
    rw [BitVec.toInt_ofNat']
    simp only [Int.bmod_def]
    omega
  simp only [Scalar.cmpi, IntOp.cmpi, BitVec.sle, h1, h2]
  by_cases h : 3 * k.val ≤ r.val
  · have : (3 * (k.val : ℤ) ≤ (r.val : ℤ)) := by omega
    simp [h, this]
  · have : ¬(3 * (k.val : ℤ) ≤ (r.val : ℤ)) := by omega
    simp [h, this]

/-- A key of the last block after the row's token has the lowest score. -/
theorem tMask_apply (s : FVec Ideal S128x384 .f32) (k : Fin 128) (r : Fin 384) :
    tMask s (ix2 k r) = if 3 * k.val ≤ r.val then s (ix2 k r) else ⊥ := by
  have hb : (broadcast S128x384 (Scalar.ofBits (F := Ideal) .f32 0xFF800000#32) : FVec Ideal S128x384 .f32) (ix2 k r) = ⊥ := ofBits_bot
  have hc : (cmpi .sle (muli (iota .tc S128x384 32 [0] iota_S128x384_d0_w32) (broadcast S128x384 3#32))
      (iota .tc S128x384 32 [1] iota_S128x384_d1_w32)) (ix2 k r) = Scalar.cmpi .sle (BitVec.ofNat 32 k.val * 3#32) (BitVec.ofNat 32 r.val) := by
    show IntOp.cmpi .sle (iota .tc S128x384 32 [0] iota_S128x384_d0_w32 (ix2 k r) * 3#32) (iota .tc S128x384 32 [1] iota_S128x384_d1_w32 (ix2 k r)) = _
    rw [iota_single_apply, iota_single_apply]
    rfl
  have hw := mask_word k r
  unfold tMask
  rw [select_apply, hb, hc]
  split_ifs with h
  · rw [hw.2 h, select_one]
  · rw [eq_zero_of_ne_one fun h' => h (hw.1 h'), select_zero]

/-- A block's scale at a lane. -/
theorem tC_apply (ks : EReal) (r : Fin 384) : tC x3 ks (ix2 (0 : Fin 1) r)
    = x3 (ix5 (0 : Fin 1) (0 : Fin 1) (0 : Fin 1) (0 : Fin 1) r) * ks * Ideal.ofBits .f32 0x3DA1E89B#32 := by
  unfold tC
  rw [mulf_apply, mulf_apply]
  exact congrArg (fun z => z * ks * Ideal.ofBits .f32 0x3DA1E89B#32) (cast_111ab x3 _ (0 : Fin 1) r)

/-- A block's maximum at a lane. -/
theorem tR_apply (s : FVec Ideal S128x384 .f32) (c : FVec Ideal S1x384 .f32) (r : Fin 384) :
    tR s c (ix2 (0 : Fin 1) r) = bmax (fun k => s (ix2 k r)) * c (ix2 (0 : Fin 1) r) := by
  unfold tR
  rw [mulf_apply]
  refine congrArg (· * c (ix2 (0 : Fin 1) r)) ((shapeCast_a_1a_apply _ shapeCasts_S384_S1x384 (0 : Fin 1) r).trans ?_)
  refine (Ideal.multiReduction_maximumf_single s _ _ _ _ (ix1 r)).trans ?_
  unfold bmax
  have hf : (s ∘ reduces_S128x384_S384.lift (ix1 r)) = fun k : Fin 128 => s (ix2 k r) :=
    funext fun k => congrArg s (by funext c; apply Fin.ext; fin_cases c <;> rfl)
  have hb : (FloatOps.ofBits .f32 0xFF800000#32 : Ideal .f32) = ⊥ := ofBits_bot
  rw [hb]
  exact congrArg (fun f => Finset.fold max (⊥ : EReal) f (Finset.univ : Finset (Fin 128))) hf

/-- The running maximum at a lane. -/
theorem tMx_apply (s : ℕ → FVec Ideal S128x384 .f32) (c : ℕ → FVec Ideal S1x384 .f32) (r : Fin 384) : ∀ n : ℕ,
    tMx s c n (ix2 (0 : Fin 1) r) = kMax (lane s r) (fun j => c j (ix2 (0 : Fin 1) r)) n
  | 0 => by
    simp only [tMx, kMax, tR_apply, lane, f128_val]
  | n + 1 => by
    simp only [tMx, kMax]
    rw [maximumf_apply, tMx_apply s c r n, tR_apply]
    simp only [lane, f128_val]

/-- A weight at a lane. -/
theorem tP_apply (s : FVec Ideal S128x384 .f32) (c m : FVec Ideal S1x384 .f32) (k : Fin 128) (r : Fin 384) :
    tP s c m (ix2 k r) = kp (s (ix2 k r) * (c (ix2 (0 : Fin 1) r) * ((8388608 : ℝ) : EReal))
      - (m (ix2 (0 : Fin 1) r) + ((129 : ℝ) : EReal)) * ((8388608 : ℝ) : EReal)) := by
  unfold tP kp
  refine congrArg (fun y => Ideal.ofBits .f32 (Ideal.fptosi 32 (Ideal.liftRound Ideal.roundHalfEven y))) ?_
  rw [subf_apply, mulf_apply]
  refine congrArg₂ (· - ·) (congrArg₂ (· * ·) ?_ ?_) ?_
  · exact (shapeCast_1ab_ab_apply _ shapeCasts_S1x128x384_S128x384 k r).trans (shapeCast_ab_1ab_apply s shapeCasts_S128x384_S1x128x384 (0 : Fin 1) k r)
  · refine (broadcastTo_1b_ab_apply _ broadcasts_S1x384_S128x384 k r).trans ?_
    rw [← ofBits_23]
    rfl
  · refine (broadcastTo_1b_ab_apply _ broadcasts_S1x384_S128x384 k r).trans ?_
    rw [← ofBits_23, ← ofBits_129]
    rfl

/-- A block's weights added within a sublane, at a lane. -/
theorem tRed_apply (p : FVec Ideal S128x384 .f32) (u : Fin 8) (r : Fin 384) :
    tRed p (ix2 u r) = ∑ g : Fin 16, p (ix2 (f128 (8 * g.val + u.val)) r) := by
  unfold tRed
  refine (Ideal.multiReduction_add_single _ _ _ _ _ (ix2 u r)).trans ?_
  refine Finset.sum_congr rfl fun (g : Fin 16) _ => ?_
  rw [show reduces_S16x8x384_S8x384.lift (ix2 u r) g = ix3 g u r by funext c; apply Fin.ext; fin_cases c <;> rfl]
  refine shapeCast_apply p _ _ _ ?_
  have := g.isLt
  have := u.isLt
  rw [Shape.rowMajor_val_three, Shape.rowMajor_val_two]
  show (8 * g.val + u.val) % 128 * 384 + r.val = (g.val * 8 + u.val) * 384 + r.val
  omega

/-- The running sum of weights at a lane. -/
theorem tLn_apply (p : ℕ → FVec Ideal S128x384 .f32) (u : Fin 8) (r : Fin 384) : ∀ n : ℕ,
    tLn p n (ix2 u r) = kLneg (lane p r) u.val n
  | 0 => by
    simp only [tLn, kLneg]
    rw [addf_apply, tRed_apply]
    exact congrArg (· + _) Ideal.ofBits_zero_f32
  | n + 1 => by
    simp only [tLn, kLneg]
    rw [addf_apply, tRed_apply, tLn_apply p u r n]
    rfl

/-- The sum of the weights at a lane. -/
theorem tL_apply (ln : FVec Ideal S8x384 .f32) (r : Fin 384) :
    tL ln (ix2 (0 : Fin 1) r) = 0 - ∑ u : Fin 8, ln (ix2 u r) := by
  unfold tL
  rw [subf_apply]
  refine congrArg₂ (· - ·) Ideal.ofBits_zero_f32 ((shapeCast_a_1a_apply _ shapeCasts_S384_S1x384 (0 : Fin 1) r).trans ?_)
  refine (Ideal.multiReduction_add_single ln _ _ _ _ (ix1 r)).trans ?_
  exact Finset.sum_congr rfl fun (k : Fin 8) _ => congrArg ln (by funext c; apply Fin.ext; fin_cases c <;> rfl)

/-- A channel of the values, by key. -/
def vRow (d : Fin 160) (j : ℕ) : EReal := x2 (ix4 (0 : Fin 1) (0 : Fin 1) d (⟨j % 896, Nat.mod_lt _ (by omega)⟩ : Fin 896))

/-- The running weighted sum at a lane. -/
theorem tAcc_apply (p : ℕ → FVec Ideal S128x384 .f32) (d : Fin 160) (r : Fin 384) : ∀ j : ℕ, j ≤ 3 →
    tAcc x2 p j (ix2 d r) = kAcc (lane p r) (vRow x2 d) j
  | 0, _ => Ideal.ofBits_zero_f32
  | j + 1, hj => by
    simp only [tAcc, kAcc]
    rw [addf_apply, tAcc_apply p d r j (by omega)]
    refine congrArg (kAcc (lane p r) (vRow x2 d) j + ·) ?_
    simp only [matmul]
    refine (Ideal.matmul_plain_apply none _ _ _ d r).trans ?_
    rw [show (constant S160x384 .f32 0x00000000#32 : FVec Ideal S160x384 .f32) (ix2 d r) = 0 from Ideal.ofBits_zero_f32, zero_add]
    refine Finset.sum_congr rfl fun k _ => congrArg₂ (· * ·) ?_ ?_
    · refine (cast_11ab (vPair x2 j) _ d k).trans ((vPair_apply x2 j d k).trans ?_)
      unfold vRow
      refine congrArg (fun z => x2 (ix4 (0 : Fin 1) (0 : Fin 1) d z)) (Fin.ext ?_)
      show 256 * (j % 3) + k.val = (256 * j + k.val) % 896
      have := k.isLt
      rw [Nat.mod_eq_of_lt (show j < 3 by omega), Nat.mod_eq_of_lt (show 256 * j + k.val < 896 by omega)]
    · have hk := k.isLt
      split_ifs with h
      · refine concatenate_pair_apply_left 0 _ _ concatenates_S128x384_S128x384_S256x384_d0 (ix2 k r) rfl (ix2 (f128 k.val) r) fun b => ?_
        fin_cases b
        · exact Nat.mod_eq_of_lt h
        · rfl
      · refine concatenate_pair_apply_right 0 _ _ concatenates_S128x384_S128x384_S256x384_d0 (ix2 k r) rfl rfl (ix2 (f128 (k.val - 128)) r) (fun b hb => ?_) ?_
        · fin_cases b
          · exact absurd rfl hb
          · rfl
        · show (k.val - 128) % 128 + 128 = k.val
          omega

/-- The weighted sum at a lane. -/
theorem tAccN_apply (p : ℕ → FVec Ideal S128x384 .f32) (d : Fin 160) (r : Fin 384) (n : ℕ) (hn : n < 7) :
    tAccN x2 p n (ix2 d r) = kAccN (lane p r) (vRow x2 d) n := by
  unfold tAccN kAccN
  split_ifs with h
  · rw [addf_apply, tAcc_apply x2 p d r _ (by omega)]
    refine congrArg (kAcc (lane p r) (vRow x2 d) (n / 2) + ·) ?_
    simp only [matmul]
    refine (Ideal.matmul_plain_apply none _ _ _ d r).trans ?_
    rw [show (constant S160x384 .f32 0x00000000#32 : FVec Ideal S160x384 .f32) (ix2 d r) = 0 from Ideal.ofBits_zero_f32, zero_add]
    refine Finset.sum_congr rfl fun k _ => congrArg₂ (· * ·) ?_ ?_
    · refine (cast_11ab (vOne x2 n) _ d k).trans ((vOne_apply x2 n d k).trans ?_)
      unfold vRow
      refine congrArg (fun z => x2 (ix4 (0 : Fin 1) (0 : Fin 1) d z)) (Fin.ext ?_)
      show 128 * (n % 7) + k.val = (128 * n + k.val) % 896
      have := k.isLt
      omega
    · show p n (ix2 k r) = p n (ix2 (f128 k.val) r)
      rw [f128_val]
  · exact tAcc_apply x2 p d r _ (by omega)

/-- The output at a lane and channel. -/
theorem tO_apply (acc : FVec Ideal S160x384 .f32) (l : FVec Ideal S1x384 .f32) (vs : EReal) (d : Fin 160) (r : Fin 384) :
    tO acc l vs (ix5 (0 : Fin 1) (0 : Fin 1) (0 : Fin 1) d r)
      = Ideal.div (acc (ix2 d r) * vs) (0 - l (ix2 (0 : Fin 1) r)) := by
  unfold tO
  refine (cast_ab_111ab _ _ d r).trans ?_
  rw [divf_apply, mulf_apply]
  refine congrArg (Ideal.div (acc (ix2 d r) * vs)) ((broadcastTo_1b_ab_apply _ broadcasts_S1x384_S160x384 d r).trans ?_)
  rw [subf_apply]
  exact congrArg (· - l (ix2 (0 : Fin 1) r)) Ideal.ofBits_zero_f32

/-- A lane's token is the lane divided by three. -/
theorem tTok_apply (r : Fin 384) : tTok (ix2 (0 : Fin 1) r) = BitVec.ofNat 32 (r.val / 3) := by
  revert r
  decide +kernel

/-- The number of keys that a row of block `n` sees. -/
def seenN (n r : ℕ) : EReal := (((BitVec.ofNat 32 (128 * n + 1) + BitVec.ofNat 32 (r / 3)).toInt : ℝ) : EReal)

/-- The logarithm at a lane. -/
theorem tLse_apply (m l : FVec Ideal S1x384 .f32) (n : ℕ) (r : Fin 384) :
    tLse m l n (ix5 (0 : Fin 1) (0 : Fin 1) (0 : Fin 1) (0 : Fin 1) r)
      = m (ix2 (0 : Fin 1) r) + Ideal.div (Ideal.log (l (ix2 (0 : Fin 1) r))) ln2 - Ideal.div (Ideal.log (seenN n r.val)) ln2 := by
  unfold tLse
  refine (cast_ab_111ab _ _ (0 : Fin 1) r).trans ?_
  unfold seenN
  rw [← tTok_apply r]
  rfl

end

/-- What a point stores for a row: the row's softmax. The scores `a` are the products of keys and queries with their scales, and
the row sees the keys up to its token. -/
theorem point (x0 : Vec Ideal S1x1x384x160 .fp8e4m3) (x1 : Vec Ideal S1x1x896x160 .fp8e4m3) (x2 : Vec Ideal S1x1x160x896 .fp8e4m3)
    (x3 : Vec Ideal S1x1x1x1x384 .f32) (ks : ℕ → EReal) (vs : EReal) (n : ℕ) (hn : n < 7) (r : Fin 384) (a : ℕ → EReal)
    (hpos : ∀ j, j ≤ n → 0 < tC x3 (ks j) (ix2 (0 : Fin 1) r))
    (ha : ∀ j, j ≤ n → ∀ k : Fin 128, ∀ K : Fin 896, K.val = 128 * j + k.val →
      (∑ d : Fin 160, x1 (ix4 (0 : Fin 1) (0 : Fin 1) K d) * x0 (ix4 (0 : Fin 1) (0 : Fin 1) r d)) * tC x3 (ks j) (ix2 (0 : Fin 1) r) = a K.val) :
    (∀ d : Fin 160, pO (F := Ideal) x0 x1 x2 x3 ks vs n (ix5 (0 : Fin 1) (0 : Fin 1) (0 : Fin 1) d r)
        = rowO a (128 * n + r.val / 3) (vRow x2 d) vs)
    ∧ pLse (F := Ideal) x0 x1 x3 ks n (ix5 (0 : Fin 1) (0 : Fin 1) (0 : Fin 1) (0 : Fin 1) r)
        = rowLse a (128 * n + r.val / 3) (seenN n r.val) := by
  have hr := r.isLt
  have H : Blocks a (128 * n + r.val / 3) n (lane (tSm x0 x1 n) r) (fun j => tC x3 (ks j) (ix2 (0 : Fin 1) r)) := by
    refine ⟨by omega, by omega, hpos, fun j hj k hk hv => ?_, fun j hj k hk hv => ?_⟩
    · have hs : lane (tSm x0 x1 n) r j k = tS x0 (kBlk x1 j) (ix2 (f128 k) r) := by
        unfold lane tSm
        split_ifs with h
        · rw [tMask_apply, if_pos]
          show 3 * (k % 128) ≤ r.val
          omega
        · rfl
      rw [hs, tS_apply]
      rw [← ha j hj ⟨k, hk⟩ ⟨128 * j + k, by omega⟩ rfl]
      refine congrArg (· * _) (Finset.sum_congr rfl fun d _ => congrArg (· * _) ((kBlk_apply x1 j (f128 k) d).trans ?_))
      refine congrArg (fun z => x1 (ix4 (0 : Fin 1) (0 : Fin 1) z d)) (Fin.ext ?_)
      show 128 * (j % 7) + k % 128 = 128 * j + k
      omega
    · have hjn : j = n := by omega
      unfold lane tSm
      rw [if_pos hjn, tMask_apply, if_neg]
      show ¬3 * (k % 128) ≤ r.val
      omega
  have hM : pM (F := Ideal) x0 x1 x3 ks n (ix2 (0 : Fin 1) r)
      = Ideal.liftRound Int.ceil (kMax (lane (tSm x0 x1 n) r) (fun j => tC x3 (ks j) (ix2 (0 : Fin 1) r)) n) := by
    unfold pM
    exact congrArg (Ideal.liftRound Int.ceil) (tMx_apply _ _ r n)
  have hP : lane (pP (F := Ideal) x0 x1 x3 ks n) r = kP (lane (tSm x0 x1 n) r) (fun j => tC x3 (ks j) (ix2 (0 : Fin 1) r))
      (Ideal.liftRound Int.ceil (kMax (lane (tSm x0 x1 n) r) (fun j => tC x3 (ks j) (ix2 (0 : Fin 1) r)) n)) := by
    funext j k
    rw [← hM]
    unfold lane pP kP
    rw [tP_apply]
  have hL : pL (F := Ideal) x0 x1 x3 ks n (ix2 (0 : Fin 1) r)
      = 0 - ∑ u : Fin 8, kLneg (lane (pP (F := Ideal) x0 x1 x3 ks n) r) u.val n := by
    unfold pL
    rw [tL_apply]
    simp only [tLn_apply]
  constructor
  · intro d
    unfold pO
    rw [tO_apply, tAccN_apply x2 _ d r n hn, hL, hP]
    exact H.out _ _
  · unfold pLse
    rw [tLse_apply, hL, hP, hM]
    exact H.lse _

end Cert.KernelIdeal.Gen

end
-- ==== Proof.Spec.lean ====
module

public import proofs.«01_k».proof.Proof.Row
public import Idealize.ShloMosaic.Lib.ValueIdx

/-! Both results of the certificate as functions of the six arguments, in exact arithmetic. -/

@[expose] public section

noncomputable section

namespace Cert.Attn

open Idealize.ShloMosaic Idealize.ShloMosaic.ValueIdx

/-- The key head that a query head reads. -/
def grp (h : Fin 24) : Fin 8 := ⟨h.val / 3, by omega⟩

/-- The block of 128 tokens that holds a token. -/
def blkOf (j : ℕ) : Fin 7 := ⟨j / 128 % 7, Nat.mod_lt _ (by omega)⟩

/-- A token number as an index. -/
def key (j : ℕ) : Fin 896 := ⟨j % 896, Nat.mod_lt _ (by omega)⟩

theorem key_val (j : Fin 896) : key j.val = j := Fin.ext (Nat.mod_eq_of_lt j.isLt)

/-- The scale of the scores that depends on the width of a head. -/
def cst : EReal := Ideal.ofBits .f32 0x3DA1E89B#32

section
variable (q : (⟨4, ![2, 896, 24, 160]⟩ : Shape).Idx → EReal) (qs : (⟨3, ![2, 7, 24]⟩ : Shape).Idx → EReal)
  (k : (⟨4, ![2, 896, 8, 160]⟩ : Shape).Idx → EReal) (ks : (⟨3, ![2, 7, 8]⟩ : Shape).Idx → EReal)
  (v : (⟨4, ![2, 896, 8, 160]⟩ : Shape).Idx → EReal) (vs : (⟨2, ![2, 8]⟩ : Shape).Idx → EReal)
  (b : Fin 2) (t : Fin 896) (h : Fin 24)

/-- The score of key `j` for a token and a head. -/
def score (j : ℕ) : EReal :=
  (∑ d : Fin 160, k (ix4 b (key j) (grp h) d) * q (ix4 b t h d)) * (qs (ix3 b (blkOf t) h) * ks (ix3 b (blkOf j) (grp h)) * cst)

/-- The first result. -/
def outVal (d : Fin 160) : EReal :=
  rowO (score q qs k ks b t h) t (fun j => v (ix4 b (key j) (grp h) d)) (vs (ix2 b (grp h)))

/-- The second result. -/
def lseVal : EReal := rowLse (score q qs k ks b t h) t (((t.val + 1 : ℕ) : ℝ) : EReal)

end

end Cert.Attn

end
-- ==== Proof.KernelArr.lean ====
module

public import proofs.«01_k».proof.Proof.Outs
public import proofs.«01_k».proof.Proof.TileIdeal
public import proofs.«01_k».proof.Proof.Spec
public import Idealize.ShloMosaic.Lib.ValueIdxRank6

/-! The kernel's two output arrays after its run, element by element. -/

@[expose] public section

noncomputable section

namespace Cert.KernelIdeal.Gen

open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (c : Dev nD)

/-- The queries. -/
def aq : (⟨4, ![2, 896, 24, 160]⟩ : Shape).Idx → EReal := m ((c.tc : Thread nD τ).loc main_arg0)
/-- The query scales. -/
def aqs : (⟨3, ![2, 7, 24]⟩ : Shape).Idx → EReal := m ((c.tc : Thread nD τ).loc main_arg1)
/-- The keys. -/
def ak : (⟨4, ![2, 896, 8, 160]⟩ : Shape).Idx → EReal := m ((c.tc : Thread nD τ).loc main_arg2)
/-- The key scales. -/
def aks : (⟨3, ![2, 7, 8]⟩ : Shape).Idx → EReal := m ((c.tc : Thread nD τ).loc main_arg3)
/-- The values. -/
def av : (⟨4, ![2, 896, 8, 160]⟩ : Shape).Idx → EReal := m ((c.tc : Thread nD τ).loc main_arg4)
/-- The value scales. -/
def avs : (⟨2, ![2, 8]⟩ : Shape).Idx → EReal := m ((c.tc : Thread nD τ).loc main_arg5)

/-- The head of row `r` of a block. -/
def hd (kv : Fin 8) (r : Fin 384) : Fin 24 := ⟨3 * kv.val + r.val % 3, by omega⟩

/-- The token of row `r` of block `n`. -/
def tok (n : Fin 7) (r : Fin 384) : Fin 896 := ⟨128 * n.val + r.val / 3, by omega⟩

/-- What the kernel receives is what the operations before it leave. -/
theorem V_eq (b : Ref sig .tc) : V m c b = StableHlo.after hostOps0 (fun b => m (c, b)) (Proc.devRef .tc b) := rfl

/-- The queries as the kernel receives them. -/
theorem V_q (b : Fin 2) (kv : Fin 8) (n : Fin 7) (r : Fin 384) (d : Fin 160) (R : Fin 2688) (hR : R.val = 384 * n.val + r.val) :
    V m c main_v2 (ix4 b kv R d) = aq m c (ix4 b (tok n r) (hd kv r) d) := by
  refine (congrFun (V_eq m c main_v2) _).trans ?_
  after_results
  refine (shapeCast_apply _ _ (ix4 b kv R d) (ix5 b kv (tok n r) (⟨r.val % 3, by omega⟩ : Fin 3) d) ?_).trans ?_
  · refine (Shape.rowMajor_val_five _).trans (Eq.trans ?_ (Shape.rowMajor_val_four _).symm)
    show (((b.val * 8 + kv.val) * 896 + (128 * n.val + r.val / 3)) * 3 + r.val % 3) * 160 + d.val
      = ((b.val * 8 + kv.val) * 2688 + R.val) * 160 + d.val
    omega
  refine (transpose_apply _ _ _ _ (ix5 b (tok n r) kv (⟨r.val % 3, by omega⟩ : Fin 3) d) ?_).trans ?_
  · intro a; fin_cases a <;> rfl
  refine (shapeCast_apply _ _ _ (ix4 b (tok n r) (hd kv r) d) ?_).trans rfl
  refine (Shape.rowMajor_val_four _).trans (Eq.trans ?_ (Shape.rowMajor_val_five _).symm)
  show ((b.val * 896 + (tok n r).val) * 24 + (3 * kv.val + r.val % 3)) * 160 + d.val
    = (((b.val * 896 + (tok n r).val) * 8 + kv.val) * 3 + r.val % 3) * 160 + d.val
  omega

/-- The keys as the kernel receives them. -/
theorem V_k (b : Fin 2) (kv : Fin 8) (j : Fin 896) (d : Fin 160) : V m c main_v3 (ix4 b kv j d) = ak m c (ix4 b j kv d) := by
  refine (congrFun (V_eq m c main_v3) _).trans ?_
  after_results
  exact (transpose_apply _ _ _ _ (ix4 b j kv d) (by intro a; fin_cases a <;> rfl)).trans rfl

/-- The values as the kernel receives them. -/
theorem V_v (b : Fin 2) (kv : Fin 8) (j : Fin 896) (d : Fin 160) : V m c main_v4 (ix4 b kv d j) = av m c (ix4 b j kv d) := by
  refine (congrFun (V_eq m c main_v4) _).trans ?_
  after_results
  exact (transpose_apply _ _ _ _ (ix4 b j kv d) (by intro a; fin_cases a <;> rfl)).trans rfl

/-- The query scales as the kernel receives them. -/
theorem V_qs (b : Fin 2) (kv : Fin 8) (n : Fin 7) (r : Fin 384) :
    V m c main_v8 (ix5 b kv n (0 : Fin 1) r) = aqs m c (ix3 b n (hd kv r)) := by
  refine (congrFun (V_eq m c main_v8) _).trans ?_
  after_results
  refine (shapeCast_apply _ _ _ (ix6 b kv n (0 : Fin 1) (⟨r.val / 3, by omega⟩ : Fin 128) (⟨r.val % 3, by omega⟩ : Fin 3)) ?_).trans ?_
  · refine (Shape.rowMajor_val_six _).trans (Eq.trans ?_ (Shape.rowMajor_val_five _).symm)
    show ((((b.val * 8 + kv.val) * 7 + n.val) * 1 + 0) * 128 + r.val / 3) * 3 + r.val % 3
      = (((b.val * 8 + kv.val) * 7 + n.val) * 1 + 0) * 384 + r.val
    omega
  refine (broadcastInDim_apply _ _ _ _ (ix6 b kv n (0 : Fin 1) (0 : Fin 1) (⟨r.val % 3, by omega⟩ : Fin 3)) ?_).trans ?_
  · intro a; fin_cases a <;> rfl
  refine (transpose_apply _ _ _ _ (ix6 b n kv (0 : Fin 1) (0 : Fin 1) (⟨r.val % 3, by omega⟩ : Fin 3)) ?_).trans ?_
  · intro a; fin_cases a <;> rfl
  refine (shapeCast_apply _ _ _ (ix3 b n (hd kv r)) ?_).trans rfl
  refine (Shape.rowMajor_val_three _).trans (Eq.trans ?_ (Shape.rowMajor_val_six _).symm)
  show (b.val * 7 + n.val) * 24 + (3 * kv.val + r.val % 3)
    = ((((b.val * 7 + n.val) * 8 + kv.val) * 1 + 0) * 1 + 0) * 3 + r.val % 3
  omega

/-- The key scales as the kernel receives them. -/
theorem V_ks (b : Fin 2) (kv : Fin 8) (j : Fin 7) : V m c main_v9 (ix3 b kv j) = aks m c (ix3 b j kv) := by
  refine (congrFun (V_eq m c main_v9) _).trans ?_
  after_results
  exact (transpose_apply _ _ _ _ (ix3 b j kv) (by intro a; fin_cases a <;> rfl)).trans rfl

/-- The value scales as the kernel receives them. -/
theorem V_vs : V m c main_arg5 = avs m c := by
  refine (V_eq m c main_arg5).trans ?_
  after_results
  rfl

/-- The grid point of a batch, a key head and a block. -/
def pt (b : Fin 2) (kv : Fin 8) (n : Fin 7) : Fin cfg0.N := ⟨(b.val * 8 + kv.val) * 7 + n.val, by
  show _ < 112
  omega⟩

theorem pt_mod (b : Fin 2) (kv : Fin 8) (n : Fin 7) : (pt b kv n).val % 7 = n.val := by
  show ((b.val * 8 + kv.val) * 7 + n.val) % 7 = n.val
  omega

theorem coords_pt : ∀ (b : Fin 2) (kv : Fin 8) (n : Fin 7),
    (grid0.coords (pt b kv n) 0).val = b.val ∧ (grid0.coords (pt b kv n) 1).val = kv.val := by decide +kernel

theorem index0 : ∀ (b : Fin 2) (kv : Fin 8) (n : Fin 7), win0_0.index (pt b kv n) = ![b.val, kv.val, n.val, 0] := by decide +kernel
theorem index1 : ∀ (b : Fin 2) (kv : Fin 8) (n : Fin 7), win0_1.index (pt b kv n) = ![b.val, kv.val, 0, 0] := by decide +kernel
theorem index2 : ∀ (b : Fin 2) (kv : Fin 8) (n : Fin 7), win0_2.index (pt b kv n) = ![b.val, kv.val, 0, 0] := by decide +kernel
theorem index3 : ∀ (b : Fin 2) (kv : Fin 8) (n : Fin 7), win0_3.index (pt b kv n) = ![b.val, kv.val, n.val, 0, 0] := by decide +kernel
theorem index4 : ∀ t : Fin grid0.N, win0_4.index t = ![0, 0, 0] := by decide +kernel
theorem index5 : ∀ t : Fin grid0.N, win0_5.index t = ![0, 0] := by decide +kernel
theorem index6 : ∀ (b : Fin 2) (kv : Fin 8) (n : Fin 7), win0_6.index (pt b kv n) = ![b.val, kv.val, n.val, 0, 0] := by decide +kernel
theorem index7 : ∀ (b : Fin 2) (kv : Fin 8) (n : Fin 7), win0_7.index (pt b kv n) = ![b.val, kv.val, n.val, 0, 0] := by decide +kernel

section
variable (b : Fin 2) (kv : Fin 8) (n : Fin 7)

/-- The point's queries. -/
theorem iblk0 (r : Fin 384) (d : Fin 160) : iblk m c 0 (pt b kv n) (ix4 (0 : Fin 1) (0 : Fin 1) r d) = aq m c (ix4 b (tok n r) (hd kv r) d) := by
  refine Eq.trans ?_ (V_q m c b kv n r d ⟨384 * n.val + r.val, by omega⟩ rfl)
  refine congrArg (V m c main_v2) (funext fun a => Fin.ext ((win0_0.rect_emb_val (pt b kv n) _ a).trans ?_))
  rw [index0]
  fin_cases a
  · show b.val * 1 + 0 = b.val; omega
  · show kv.val * 1 + 0 = kv.val; omega
  · show n.val * 384 + r.val = 384 * n.val + r.val; omega
  · show 0 * 160 + d.val = d.val; omega

/-- The point's keys. -/
theorem iblk1 (j : Fin 896) (d : Fin 160) : iblk m c 1 (pt b kv n) (ix4 (0 : Fin 1) (0 : Fin 1) j d) = ak m c (ix4 b j kv d) := by
  refine Eq.trans ?_ (V_k m c b kv j d)
  refine congrArg (V m c main_v3) (funext fun a => Fin.ext ((win0_1.rect_emb_val (pt b kv n) _ a).trans ?_))
  rw [index1]
  fin_cases a
  · show b.val * 1 + 0 = b.val; omega
  · show kv.val * 1 + 0 = kv.val; omega
  · show 0 * 896 + j.val = j.val; omega
  · show 0 * 160 + d.val = d.val; omega

/-- The point's values. -/
theorem iblk2 (j : Fin 896) (d : Fin 160) : iblk m c 2 (pt b kv n) (ix4 (0 : Fin 1) (0 : Fin 1) d j) = av m c (ix4 b j kv d) := by
  refine Eq.trans ?_ (V_v m c b kv j d)
  refine congrArg (V m c main_v4) (funext fun a => Fin.ext ((win0_2.rect_emb_val (pt b kv n) _ a).trans ?_))
  rw [index2]
  fin_cases a
  · show b.val * 1 + 0 = b.val; omega
  · show kv.val * 1 + 0 = kv.val; omega
  · show 0 * 160 + d.val = d.val; omega
  · show 0 * 896 + j.val = j.val; omega

/-- The point's query scales. -/
theorem iblk3 (r : Fin 384) : iblk m c 3 (pt b kv n) (ix5 (0 : Fin 1) (0 : Fin 1) (0 : Fin 1) (0 : Fin 1) r) = aqs m c (ix3 b n (hd kv r)) := by
  refine Eq.trans ?_ (V_qs m c b kv n r)
  refine congrArg (V m c main_v8) (funext fun a => Fin.ext ((win0_3.rect_emb_val (pt b kv n) _ a).trans ?_))
  rw [index3]
  fin_cases a
  · show b.val * 1 + 0 = b.val; omega
  · show kv.val * 1 + 0 = kv.val; omega
  · show n.val * 1 + 0 = n.val; omega
  · rfl
  · show 0 * 384 + r.val = r.val; omega

/-- The point's key scales. -/
theorem ksAt_pt (j : Fin 7) : ksAt (grid0.coords (pt b kv n)) (iblk m c 4 (pt b kv n)) j.val = aks m c (ix3 b j kv) := by
  have hc := coords_pt b kv n
  have h0 : (Scalar.indexCast (BitVec.ofNat 32 (grid0.coords (pt b kv n) 0).val)).toNat = b.val := by
    rw [hc.1]; exact word_toNat _ 2 b.isLt (by omega)
  have h1 : (Scalar.indexCast (BitVec.ofNat 32 (grid0.coords (pt b kv n) 1).val)).toNat = kv.val := by
    rw [hc.2]; exact word_toNat _ 8 kv.isLt (by omega)
  refine Eq.trans (b := ksW (iblk m c 4 (pt b kv n)) b.val kv.val j.val) ?_ ?_
  · refine (ld_ks (F := Ideal) _ _ _ _ _ _).trans ?_
    rw [h0, h1]
    unfold ksW
    simp only [Nat.mod_mod]
  · refine Eq.trans ?_ (V_ks m c b kv j)
    refine congrArg (V m c main_v9) (funext fun a => Fin.ext ((win0_4.rect_emb_val (pt b kv n) _ a).trans ?_))
    rw [index4]
    fin_cases a
    · show 0 * 2 + b.val % 2 = b.val; omega
    · show 0 * 8 + kv.val % 8 = kv.val; omega
    · show 0 * 7 + j.val % 7 = j.val; omega

/-- The point's value scale. -/
theorem vsAt_pt : vsAt (grid0.coords (pt b kv n)) (iblk m c 5 (pt b kv n)) = avs m c (ix2 b kv) := by
  have hc := coords_pt b kv n
  have h0 : (Scalar.indexCast (BitVec.ofNat 32 (grid0.coords (pt b kv n) 0).val)).toNat = b.val := by
    rw [hc.1]; exact word_toNat _ 2 b.isLt (by omega)
  have h1 : (Scalar.indexCast (BitVec.ofNat 32 (grid0.coords (pt b kv n) 1).val)).toNat = kv.val := by
    rw [hc.2]; exact word_toNat _ 8 kv.isLt (by omega)
  refine Eq.trans (b := vsW (iblk m c 5 (pt b kv n)) b.val kv.val) ?_ ?_
  · refine (ld_vs (F := Ideal) _ _ _ _ _).trans ?_
    rw [h0, h1]
  · rw [← V_vs]
    refine congrArg (V m c main_arg5) (funext fun a => Fin.ext ((win0_5.rect_emb_val (pt b kv n) _ a).trans ?_))
    rw [index5]
    fin_cases a
    · show 0 * 2 + b.val % 2 = b.val; omega
    · show 0 * 8 + kv.val % 8 = kv.val; omega

end

/-! ## The arrays after the run -/

/-- What a point writes back to the output. -/
theorem flushed6 (t : Fin cfg0.N) : (dats m 0 c).flushed 6 t = (cfg0.win 6).cut (grid0.coords t) ((outsAt0 m c t.val t.isLt).1) := by
  show (cfg0.win 6).cut (grid0.coords t) ((dats m 0 c).after 6 t) = _
  rw [after0_6]

/-- What a point writes back to the logarithms. -/
theorem flushed7 (t : Fin cfg0.N) : (dats m 0 c).flushed 7 t = (cfg0.win 7).cut (grid0.coords t) ((outsAt0 m c t.val t.isLt).2) := by
  show (cfg0.win 7).cut (grid0.coords t) ((dats m 0 c).after 7 t) = _
  rw [after0_7]

theorem idx_inj6 : ∀ t t' : Fin cfg0.N, win0_6.index t = win0_6.index t' → t = t' :=
  (by decide +kernel : ∀ t t' : Fin grid0.N, win0_6.index t = win0_6.index t' → t = t')

theorem idx_inj7 : ∀ t t' : Fin cfg0.N, win0_7.index t = win0_7.index t' → t = t' :=
  (by decide +kernel : ∀ t t' : Fin grid0.N, win0_7.index t = win0_7.index t' → t = t')

/-- Different points write different places of the output. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Different points write different places of the logarithms. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

section
variable (b : Fin 2) (kv : Fin 8) (n : Fin 7)

/-- The output array after the run is what its points left. -/
theorem arr6 (d : Fin 160) (r : Fin 384) : (dats m 0 c).arrAt 6 cfg0.N (ix5 b kv n d r)
    = (outsAt0 m c (pt b kv n).val (pt b kv n).isLt).1 (ix5 (0 : Fin 1) (0 : Fin 1) (0 : Fin 1) d r) := by
  have h := (dats m 0 c).arrAt_emb_eq_flushed 6 disjoint6 (pt b kv n) (flush0_6 _) (ix5 (0 : Fin 1) (0 : Fin 1) (0 : Fin 1) d r)
  rw [flushed6] at h
  refine Eq.trans (congrArg ((dats m 0 c).arrAt 6 cfg0.N) ?_) h
  refine (funext fun a => Fin.ext ((win0_6.rect_emb_val (pt b kv n) _ a).trans ?_)).symm
  rw [index6]
  fin_cases a
  · show b.val * 1 + 0 = b.val; omega
  · show kv.val * 1 + 0 = kv.val; omega
  · show n.val * 1 + 0 = n.val; omega
  · show 0 * 160 + d.val = d.val; omega
  · show 0 * 384 + r.val = r.val; omega

/-- The array of logarithms after the run is what its points left. -/
theorem arr7 (r : Fin 384) : (dats m 0 c).arrAt 7 cfg0.N (ix5 b kv n (0 : Fin 1) r)
    = (outsAt0 m c (pt b kv n).val (pt b kv n).isLt).2 (ix5 (0 : Fin 1) (0 : Fin 1) (0 : Fin 1) (0 : Fin 1) r) := by
  have h := (dats m 0 c).arrAt_emb_eq_flushed 7 disjoint7 (pt b kv n) (flush0_7 _) (ix5 (0 : Fin 1) (0 : Fin 1) (0 : Fin 1) (0 : Fin 1) r)
  rw [flushed7] at h
  refine Eq.trans (congrArg ((dats m 0 c).arrAt 7 cfg0.N) ?_) h
  refine (funext fun a => Fin.ext ((win0_7.rect_emb_val (pt b kv n) _ a).trans ?_)).symm
  rw [index7]
  fin_cases a
  · show b.val * 1 + 0 = b.val; omega
  · show kv.val * 1 + 0 = kv.val; omega
  · show n.val * 1 + 0 = n.val; omega
  · rfl
  · show 0 * 384 + r.val = r.val; omega

theorem grp_hd (r : Fin 384) : grp (hd kv r) = kv := Fin.ext (by
  show (3 * kv.val + r.val % 3) / 3 = kv.val
  omega)

/-- The number of keys seen is the token's number and one. -/
theorem seenN_tok (r : Fin 384) : seenN n.val r.val = ((((tok n r).val + 1 : ℕ) : ℝ) : EReal) := by
  unfold seenN
  have hn := n.isLt
  have hr := r.isLt
  have : (BitVec.ofNat 32 (128 * n.val + 1) + BitVec.ofNat 32 (r.val / 3)).toInt = (((tok n r).val + 1 : ℕ) : ℤ) := by
    rw [← BitVec.ofNat_add, BitVec.toInt_ofNat']
    simp only [Int.bmod_def]
    show _ = ((128 * n.val + r.val / 3 + 1 : ℕ) : ℤ)
    omega
  rw [this]
  norm_cast

/-- At positive scales both arrays hold the two results. -/
theorem arrs (hq : ∀ i, 0 < aqs m c i) (hk : ∀ i, 0 < aks m c i) (r : Fin 384) :
    (∀ d : Fin 160, (dats m 0 c).arrAt 6 cfg0.N (ix5 b kv n d r)
      = outVal (aq m c) (aqs m c) (ak m c) (aks m c) (av m c) (avs m c) b (tok n r) (hd kv r) d)
    ∧ (dats m 0 c).arrAt 7 cfg0.N (ix5 b kv n (0 : Fin 1) r)
      = lseVal (aq m c) (aqs m c) (ak m c) (aks m c) b (tok n r) (hd kv r) := by
  have hn := n.isLt
  have hr := r.isLt
  have htok : (tok n r).val = 128 * n.val + r.val / 3 := rfl
  have hC : ∀ j : Fin 7, tC (F := Ideal) (iblk m c 3 (pt b kv n)) (ksAt (grid0.coords (pt b kv n)) (iblk m c 4 (pt b kv n)) j.val) (ix2 (0 : Fin 1) r)
      = aqs m c (ix3 b n (hd kv r)) * aks m c (ix3 b j kv) * cst := by
    intro j
    rw [ksAt_pt m c b kv n j, tC_apply, iblk3]
    rfl
  have hcst : 0 < cst := by
    show 0 < Ideal.ofBits .f32 0x3DA1E89B#32
    simp [Ideal.ofBits, Ideal.ieee]
    rw [← EReal.coe_mul]
    exact EReal.coe_pos.2 (by norm_num)
  have H := point (iblk m c 0 (pt b kv n)) (iblk m c 1 (pt b kv n)) (iblk m c 2 (pt b kv n)) (iblk m c 3 (pt b kv n))
    (ksAt (grid0.coords (pt b kv n)) (iblk m c 4 (pt b kv n))) (vsAt (grid0.coords (pt b kv n)) (iblk m c 5 (pt b kv n))) n.val hn r
    (score (aq m c) (aqs m c) (ak m c) (aks m c) b (tok n r) (hd kv r))
    (fun j hj => by
      rw [hC ⟨j, by omega⟩]
      exact EReal.mul_pos (EReal.mul_pos (hq _) (hk _)) hcst)
    (fun j hj k K hK => by
      have hk := k.isLt
      rw [hC ⟨j, by omega⟩]
      unfold score
      rw [grp_hd, key_val]
      refine congrArg₂ (· * ·) (Finset.sum_congr rfl fun d _ => congrArg₂ (· * ·) (iblk1 m c b kv n K d) (iblk0 m c b kv n r d)) ?_
      have h1 : blkOf (tok n r).val = n := Fin.ext (by
        show (128 * n.val + r.val / 3) / 128 % 7 = n.val
        omega)
      have h2 : blkOf K.val = ⟨j, by omega⟩ := Fin.ext (by
        show K.val / 128 % 7 = j
        omega)
      rw [h1, h2])
  constructor
  · intro d
    rw [arr6, outs m c (pt b kv n) n.val (pt_mod b kv n)]
    refine (H.1 d).trans ?_
    unfold outVal
    rw [vsAt_pt, grp_hd, htok]
    refine congrArg (fun f => rowO _ _ f _) (funext fun j => ?_)
    exact iblk2 m c b kv n (key j) d
  · rw [arr7, outs m c (pt b kv n) n.val (pt_mod b kv n)]
    refine H.2.trans ?_
    rw [seenN_tok]
    rfl

end

end Cert.KernelIdeal.Gen

end
-- ==== Proof.KernelRes.lean ====
module

public import proofs.«01_k».proof.Proof.KernelArr

/-! The kernel program's two results, element by element: what its host operations make of the kernel's two arrays. -/

@[expose] public section

noncomputable section

namespace Cert.KernelIdeal.Gen

open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (c : Dev nD)

/-- What the host program's buffers hold at the end. -/
def fin (b : Ref sig .tc) : Buf (Elt Ideal) ((c.tc : Thread nD τ).loc b) :=
  Pipeline.afterTail₀ cfgs (dats m) 0 (V0 m) [hostOps1] c b

/-- What the buffers hold right after the kernel. -/
abbrev mid : Valuation τ sig (Elt Ideal) :=
  Pipeline.withArrays cfg0.spec c (V0 m c) (fun w => (dats m 0 c).arrAt w cfg0.N)

/-- What they hold at the end is what the last host operations make of it. -/
theorem fin_eq (b : Ref sig .tc) : fin m c b = StableHlo.after hostOps1 (mid m c) (Proc.devRef .tc b) := rfl

theorem arrRef_inj : Function.Injective (Pipeline.arrRef cfg0.spec) := by decide

/-- The output array as the kernel leaves it. -/
theorem mid6 : mid m c (Proc.devRef .tc main_v10_0) = (dats m 0 c).arrAt 6 cfg0.N :=
  Pipeline.withArrays_arr cfg0.spec arrRef_inj c (V0 m c) (fun w => (dats m 0 c).arrAt w cfg0.N) 6

/-- The array of logarithms as the kernel leaves it. -/
theorem mid7 : mid m c (Proc.devRef .tc main_v10_1) = (dats m 0 c).arrAt 7 cfg0.N :=
  Pipeline.withArrays_arr cfg0.spec arrRef_inj c (V0 m c) (fun w => (dats m 0 c).arrAt w cfg0.N) 7

section
variable (b : Fin 2) (t : Fin 896) (h : Fin 24)

/-- The key head of a query head. -/
def kvOf : Fin 8 := ⟨h.val / 3, by omega⟩
/-- The block of a token. -/
def nOf : Fin 7 := ⟨t.val / 128, by omega⟩
/-- The row of a token and a query head in its block. -/
def rOf : Fin 384 := ⟨3 * (t.val % 128) + h.val % 3, by omega⟩

theorem tok_rOf : tok (nOf t) (rOf t h) = t := Fin.ext (by
  show 128 * (t.val / 128) + (3 * (t.val % 128) + h.val % 3) / 3 = t.val
  omega)

theorem hd_rOf : hd (kvOf h) (rOf t h) = h := Fin.ext (by
  show 3 * (h.val / 3) + (3 * (t.val % 128) + h.val % 3) % 3 = h.val
  omega)

/-- A change of float format is the identity in exact arithmetic. -/
theorem truncf_id {s : Shape} (x : FVec Ideal s .f32) (i : s.Idx) : truncf .bf16 x bitsLt_bf16_f32 i = x i := rfl

/-- The first result's element is an element of the kernel's output array. -/
theorem fin_v14 (d : Fin 160) : fin m c main_v14 (ix4 b t h d)
    = (dats m 0 c).arrAt 6 cfg0.N (ix5 b (kvOf h) (nOf t) d (rOf t h)) := by
  refine (congrFun (fin_eq m c main_v14) _).trans ?_
  after_results
  refine (truncf_id _ _).trans ?_
  refine Eq.trans ?_ (congrFun (mid6 m c) _)
  refine (shapeCast_apply _ _ (ix4 b t h d) (ix6 b (nOf t) (⟨t.val % 128, by omega⟩ : Fin 128) (kvOf h) (⟨h.val % 3, by omega⟩ : Fin 3) d) ?_).trans ?_
  · refine (Shape.rowMajor_val_six _).trans (Eq.trans ?_ (Shape.rowMajor_val_four _).symm)
    show ((((b.val * 7 + t.val / 128) * 128 + t.val % 128) * 8 + h.val / 3) * 3 + h.val % 3) * 160 + d.val
      = ((b.val * 896 + t.val) * 24 + h.val) * 160 + d.val
    omega
  refine (transpose_apply _ _ _ _ (ix6 b (kvOf h) (nOf t) d (⟨t.val % 128, by omega⟩ : Fin 128) (⟨h.val % 3, by omega⟩ : Fin 3)) ?_).trans ?_
  · intro a; fin_cases a <;> rfl
  refine (shapeCast_apply _ _ _ (ix5 b (kvOf h) (nOf t) d (rOf t h)) ?_).trans rfl
  refine (Shape.rowMajor_val_five _).trans (Eq.trans ?_ (Shape.rowMajor_val_six _).symm)
  show (((b.val * 8 + h.val / 3) * 7 + t.val / 128) * 160 + d.val) * 384 + (3 * (t.val % 128) + h.val % 3)
    = ((((b.val * 8 + h.val / 3) * 7 + t.val / 128) * 160 + d.val) * 128 + t.val % 128) * 3 + h.val % 3
  omega

/-- The second result's element is an element of the kernel's array of logarithms. -/
theorem fin_v17 : fin m c main_v17 (ix3 b t h)
    = (dats m 0 c).arrAt 7 cfg0.N (ix5 b (kvOf h) (nOf t) (0 : Fin 1) (rOf t h)) := by
  refine (congrFun (fin_eq m c main_v17) _).trans ?_
  after_results
  refine Eq.trans ?_ (congrFun (mid7 m c) _)
  refine (shapeCast_apply _ _ (ix3 b t h) (ix5 b (nOf t) (⟨t.val % 128, by omega⟩ : Fin 128) (kvOf h) (⟨h.val % 3, by omega⟩ : Fin 3)) ?_).trans ?_
  · refine (Shape.rowMajor_val_five _).trans (Eq.trans ?_ (Shape.rowMajor_val_three _).symm)
    show (((b.val * 7 + t.val / 128) * 128 + t.val % 128) * 8 + h.val / 3) * 3 + h.val % 3
      = (b.val * 896 + t.val) * 24 + h.val
    omega
  refine (transpose_apply _ _ _ _ (ix5 b (kvOf h) (nOf t) (⟨t.val % 128, by omega⟩ : Fin 128) (⟨h.val % 3, by omega⟩ : Fin 3)) ?_).trans ?_
  · intro a; fin_cases a <;> rfl
  refine (shapeCast_apply _ _ _ (ix5 b (kvOf h) (nOf t) (0 : Fin 1) (rOf t h)) ?_).trans rfl
  refine (Shape.rowMajor_val_five _).trans (Eq.trans ?_ (Shape.rowMajor_val_five _).symm)
  show (((b.val * 8 + h.val / 3) * 7 + t.val / 128) * 1 + 0) * 384 + (3 * (t.val % 128) + h.val % 3)
    = (((b.val * 8 + h.val / 3) * 7 + t.val / 128) * 128 + t.val % 128) * 3 + h.val % 3
  omega

/-- With positive scales, the first result of the kernel's program is the attention output. -/
theorem out_eq (hq : ∀ i, 0 < aqs m c i) (hk : ∀ i, 0 < aks m c i) (d : Fin 160) : fin m c main_v14 (ix4 b t h d)
    = outVal (aq m c) (aqs m c) (ak m c) (aks m c) (av m c) (avs m c) b t h d := by
  rw [fin_v14, (arrs m c b (kvOf h) (nOf t) hq hk (rOf t h)).1 d, tok_rOf, hd_rOf]

/-- With positive scales, the second result of the kernel's program is the scores' logarithm. -/
theorem lse_eq (hq : ∀ i, 0 < aqs m c i) (hk : ∀ i, 0 < aks m c i) : fin m c main_v17 (ix3 b t h)
    = lseVal (aq m c) (aqs m c) (ak m c) (aks m c) b t h := by
  rw [fin_v17, (arrs m c b (kvOf h) (nOf t) hq hk (rOf t h)).2, tok_rOf, hd_rOf]

end

end Cert.KernelIdeal.Gen

end
-- ==== Proof.RefVal.lean ====
module

public import proofs.«01_k».proof.Proof.Gen.ReferenceIdeal.Frame
public import proofs.«01_k».proof.Proof.Spec
public import Idealize.ShloMosaic.Lib.Pipeline.Value
public import Idealize.ShloMosaic.Lib.ValueIdx
public import Idealize.ShloMosaic.PureOps.Ideal.Laws

/-! What the reference's body computes, element by element, in exact arithmetic. -/

@[expose] public section

noncomputable section

namespace Cert.ReferenceIdeal.Gen

open Idealize.ShloMosaic Idealize.ShloMosaic.ValueIdx Cert.Attn

/-- The bits of one. -/
theorem bits_one : Ideal.ofBits .f32 0x3F800000#32 = 1 := by
  simp [Ideal.ofBits, Ideal.ieee]
  rw [← EReal.coe_mul]
  norm_num

/-- The bits of two to the twenty-third. -/
theorem bits_23 : Ideal.ofBits .f32 0x4B000000#32 = ((8388608 : ℝ) : EReal) := by
  simp [Ideal.ofBits, Ideal.ieee]

/-- The bits of the inverse of two to the twenty-third. -/
theorem bits_inv23 : Ideal.ofBits .f32 0x34000000#32 = (((2 : ℝ) ^ (-23 : ℤ) : ℝ) : EReal) := by
  simp [Ideal.ofBits, Ideal.ieee]
  rw [← EReal.coe_mul]
  norm_num

/-- The bits of the least exponent. -/
theorem bits_126 : Ideal.ofBits .f32 0xC2FC0000#32 = ((-126 : ℝ) : EReal) := by
  simp [Ideal.ofBits, Ideal.ieee]
  rw [← EReal.coe_mul]
  norm_num

/-- The bits of minus infinity. -/
theorem bits_bot : Ideal.ofBits .f32 0xFF800000#32 = ⊥ := by
  simp [Ideal.ofBits, Ideal.ieee]

/-- The product of queries and keys at an element. -/
theorem dot_qk (lhs rhs : FVec Ideal S48x896x160 .fp8e4m3) (acc : FVec Ideal S48x896x896 .f32) (N : Fin 48) (t j : Fin 896) :
    FloatOps.matmul dot_S48x896x160_S48x896x160_S48x896x896_2_2_1_1_0_0 none lhs rhs acc (ix3 N t j)
      = acc (ix3 N t j) + ∑ d : Fin 160, lhs (ix3 N t d) * rhs (ix3 N j d) := by
  rw [Ideal.matmul_apply, ← Equiv.sum_comp (contrEquiv1 dot_S48x896x160_S48x896x160_S48x896x896_2_2_1_1_0_0 160 rfl rfl).symm]
  refine congrArg (acc (ix3 N t j) + ·) (Finset.sum_congr rfl fun d _ => ?_)
  have hk := contrEquiv1_symm_val dot_S48x896x160_S48x896x160_S48x896x896_2_2_1_1_0_0 160 rfl rfl d
  refine congrArg₂ (· * ·) (congrArg lhs ?_) (congrArg rhs ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => rfl
    | ⟨2, _⟩ => exact hk

/-- The product of weights and values at an element. -/
theorem dot_pv (lhs : FVec Ideal S48x896x896 .fp8e4m3) (rhs : FVec Ideal S48x896x160 .fp8e4m3) (acc : FVec Ideal S48x896x160 .f32)
    (N : Fin 48) (t : Fin 896) (d : Fin 160) :
    FloatOps.matmul dot_S48x896x896_S48x896x160_S48x896x160_2_1_1_2_0_0 none lhs rhs acc (ix3 N t d)
      = acc (ix3 N t d) + ∑ j : Fin 896, lhs (ix3 N t j) * rhs (ix3 N j d) := by
  rw [Ideal.matmul_apply, ← Equiv.sum_comp (contrEquiv1 dot_S48x896x896_S48x896x160_S48x896x160_2_1_1_2_0_0 896 rfl rfl).symm]
  refine congrArg (acc (ix3 N t d) + ·) (Finset.sum_congr rfl fun j _ => ?_)
  have hk := contrEquiv1_symm_val dot_S48x896x896_S48x896x160_S48x896x160_2_1_1_2_0_0 896 rfl rfl j
  refine congrArg₂ (· * ·) (congrArg lhs ?_) (congrArg rhs ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk
    | ⟨2, _⟩ => rfl

/-- A column of the rows' numbers, spread over the keys. -/
theorem col_keys (x : S48x896x1.Idx → EReal) (N : Fin 48) (t j : Fin 896) :
    broadcastTo S48x896x896 x broadcasts_S48x896x1_S48x896x896 (ix3 N t j) = x (ix3 N t (0 : Fin 1)) :=
  broadcastTo_apply _ _ _ _ (by intro a; fin_cases a <;> rfl)

/-- A column of the rows' numbers, spread over the channels. -/
theorem col_chan (x : S48x896x1.Idx → EReal) (N : Fin 48) (t : Fin 896) (d : Fin 160) :
    broadcastTo S48x896x160 x broadcasts_S48x896x1_S48x896x160 (ix3 N t d) = x (ix3 N t (0 : Fin 1)) :=
  broadcastTo_apply _ _ _ _ (by intro a; fin_cases a <;> rfl)

/-- A row of the keys' numbers, spread over the tokens. -/
theorem row_keys (x : S48x1x896.Idx → EReal) (N : Fin 48) (t j : Fin 896) :
    broadcastTo S48x896x896 x broadcasts_S48x1x896_S48x896x896 (ix3 N t j) = x (ix3 N (0 : Fin 1) j) :=
  broadcastTo_apply _ _ _ _ (by intro a; fin_cases a <;> rfl)

/-- A head's number, spread over tokens and channels. -/
theorem one_chan (x : S48x1x1.Idx → EReal) (N : Fin 48) (t : Fin 896) (d : Fin 160) :
    broadcastTo S48x896x160 x broadcasts_S48x1x1_S48x896x160 (ix3 N t d) = x (ix3 N (0 : Fin 1) (0 : Fin 1)) :=
  broadcastTo_apply _ _ _ _ (by intro a; fin_cases a <;> rfl)

/-- A column made of a table of the rows' numbers. -/
theorem as_col (x : S48x896.Idx → EReal) (N : Fin 48) (t : Fin 896) :
    shapeCast S48x896x1 x shapeCasts_S48x896_S48x896x1 (ix3 N t (0 : Fin 1)) = x (ix2 N t) := by
  refine shapeCast_apply _ _ _ _ ?_
  rw [Shape.rowMajor_val_three, Shape.rowMajor_val_two]
  show N.val * 896 + t.val = (N.val * 896 + t.val) * 1 + 0
  omega

/-- The keys of a row, as the reduction reads them. -/
theorem lift_key (N : Fin 48) (t j : Fin 896) : reduces_S48x896x896_S48x896.lift (ix2 N t) j = ix3 N t j := by
  funext c; apply Fin.ext; fin_cases c <;> rfl

/-- Folding the larger of two over finitely many numbers gives the largest. -/
theorem fold_sup (K : ℕ) (f : Fin K → EReal) : Finset.univ.fold max ⊥ f = Finset.univ.sup f := rfl

/-- The largest number of a row. -/
theorem max_key (s : FVec Ideal S48x896x896 .f32) (N : Fin 48) (t : Fin 896) :
    multiReduction .maximumf [2] S48x896 s 0xFF800000#32 reduces_S48x896x896_S48x896 (.inl rfl) rfl (ix2 N t)
      = Finset.univ.sup fun j : Fin 896 => s (ix3 N t j) := by
  have h := Ideal.multiReduction_maximumf_single s 0xFF800000#32 reduces_S48x896x896_S48x896 (.inl rfl) rfl (ix2 N t)
  have hf : (s ∘ reduces_S48x896x896_S48x896.lift (ix2 N t)) = fun j : Fin 896 => s (ix3 N t j) :=
    funext fun (j : Fin 896) => congrArg s (lift_key N t j)
  rw [hf] at h
  rw [← fold_sup]
  refine h.trans ?_
  exact congrArg (fun z => (Finset.univ : Finset (Fin 896)).fold max z fun j : Fin 896 => s (ix3 N t j)) bits_bot

section
variable (x0 x1 x2 : Vec Ideal S48x896x160 .fp8e4m3) (x3 : Vec Ideal S48x896x1 .f32) (x4 : Vec Ideal S48x1x896 .f32)
  (x5 : Vec Ideal S48x1x1 .f32) (N : Fin 48) (t : Fin 896)

/-- A score. -/
theorem pay1_apply (j : Fin 896) : k0_pay1 x0 x1 x3 x4 (ix3 N t j)
    = (∑ d : Fin 160, x0 (ix3 N t d) * x1 (ix3 N j d)) * x3 (ix3 N t (0 : Fin 1)) * x4 (ix3 N (0 : Fin 1) j) * cst := by
  unfold k0_pay1
  simp only [shapeCast_self, matmul]
  rw [mulf_apply, mulf_apply, mulf_apply, col_keys, row_keys]
  refine congrArg (fun z => z * x3 (ix3 N t (0 : Fin 1)) * x4 (ix3 N (0 : Fin 1) j) * cst) ((dot_qk _ _ _ N t j).trans ?_)
  rw [show (constant S48x896x896 .f32 0x00000000#32 : FVec Ideal S48x896x896 .f32) (ix3 N t j) = 0 from Ideal.ofBits_zero_f32, zero_add]

theorem cmp_word (j t : Fin 896) : IntOp.cmpi .sle (BitVec.ofNat 32 j.val) (BitVec.ofNat 32 t.val) = 1#1 ↔ j.val ≤ t.val := by
  have hj := j.isLt
  have ht := t.isLt
  have h1 : (BitVec.ofNat 32 j.val).toInt = j.val := by
    rw [BitVec.toInt_ofNat']
    simp only [Int.bmod_def]
    omega
  have h2 : (BitVec.ofNat 32 t.val).toInt = t.val := by
    rw [BitVec.toInt_ofNat']
    simp only [Int.bmod_def]
    omega
  simp only [IntOp.cmpi, BitVec.sle, h1, h2]
  by_cases h : j.val ≤ t.val
  · have : ((j.val : ℤ) ≤ (t.val : ℤ)) := by omega
    simp [h, this]
  · have : ¬((j.val : ℤ) ≤ (t.val : ℤ)) := by omega
    simp [h, this]

/-- A choice by the mask of the keys at or before the token. -/
theorem pay2_select (A B : FVec Ideal S48x896x896 .f32) (j : Fin 896) :
    select k0_pay2 A B (ix3 N t j) = if j.val ≤ t.val then A (ix3 N t j) else B (ix3 N t j) := by
  have hc : k0_pay2 (ix3 N t j) = IntOp.cmpi .sle (BitVec.ofNat 32 j.val) (BitVec.ofNat 32 t.val) := by
    unfold k0_pay2
    show IntOp.cmpi .sle (iota .tc S48x896x896 32 [2] iota_S48x896x896_d2_w32 (ix3 N t j))
      (iota .tc S48x896x896 32 [1] iota_S48x896x896_d1_w32 (ix3 N t j)) = _
    rw [iota_single_apply, iota_single_apply]
  have hw := cmp_word j t
  rw [select_apply, hc]
  split_ifs with h
  · rw [hw.2 h, select_one]
  · rw [eq_zero_of_ne_one fun h' => h (hw.1 h'), select_zero]

/-- The largest of finitely many numbers of a sequence. -/
theorem sup_fin (f : ℕ → EReal) (K : ℕ) : (Finset.univ.sup fun j : Fin K => f j.val) = (Finset.range K).sup f := by
  apply le_antisymm
  · exact Finset.sup_le fun j _ => Finset.le_sup (f := f) (Finset.mem_range.2 j.isLt)
  · exact Finset.sup_le fun j hj => Finset.le_sup (f := fun j : Fin K => f j.val) (Finset.mem_univ (⟨j, Finset.mem_range.1 hj⟩ : Fin K))

variable (a : ℕ → EReal) (ha : ∀ j : Fin 896, k0_pay1 x0 x1 x3 x4 (ix3 N t j) = a j.val)
include ha

/-- The row's maximum, rounded up. -/
theorem pay3_apply : k0_pay3 x0 x1 x3 x4 (ix3 N t (0 : Fin 1)) = rowM a t := by
  unfold k0_pay3 rowM
  have hc (v : FVec Ideal S48x896x1 .f32) (i : S48x896x1.Idx) : ceil v i = Ideal.liftRound Int.ceil (v i) := rfl
  rw [hc, as_col, max_key]
  refine congrArg (Ideal.liftRound Int.ceil) ?_
  rw [← sup_masked a t.val 896 t.isLt, ← sup_fin]
  refine congrArg Finset.univ.sup (funext fun (j : Fin 896) => ?_)
  rw [pay2_select, ha]
  exact congrArg (fun z => if j.val ≤ t.val then a j.val else z) bits_bot

/-- The argument of a weight. -/
theorem pay4_apply (j : Fin 896) : k0_pay4 x0 x1 x3 x4 (ix3 N t j) = if j.val ≤ t.val then a j.val - rowM a t else 0 := by
  unfold k0_pay4
  rw [pay2_select, subf_apply, col_keys, pay3_apply x0 x1 x3 x4 N t a ha, ha]
  exact congrArg (fun z => if j.val ≤ t.val then a j.val - rowM a t else z) Ideal.ofBits_zero_f32

/-- A weight. -/
theorem pay7_apply (j : Fin 896) : k0_pay7 k0_pay2 (k0_pay5 x0 x1 x3 x4) (k0_pay6 x0 x1 x3 x4) (Scalar.ofBits (F := Ideal) .f32 0x00000000#32) (ix3 N t j)
    = if j.val ≤ t.val then rowW a t j.val else 0 := by
  have h4 := pay4_apply x0 x1 x3 x4 N t a ha j
  unfold k0_pay7
  rw [pay2_select]
  split_ifs with h
  · rw [if_pos h] at h4
    have h5 : k0_pay5 x0 x1 x3 x4 (ix3 N t j) = max (Ideal.liftRound Int.floor (a j.val - rowM a t)) ((-126 : ℝ) : EReal) := by
      unfold k0_pay5
      rw [maximumf_apply]
      exact congrArg₂ max (congrArg (Ideal.liftRound Int.floor) h4) bits_126
    have h6 : k0_pay6 x0 x1 x3 x4 (ix3 N t j) = Ideal.liftRound Ideal.roundHalfEven ((1 + (a j.val - rowM a t
        - max (Ideal.liftRound Int.floor (a j.val - rowM a t)) ((-126 : ℝ) : EReal))) * ((8388608 : ℝ) : EReal)) * (((2 : ℝ) ^ (-23 : ℤ) : ℝ) : EReal) := by
      unfold k0_pay6
      rw [mulf_apply]
      refine congrArg₂ (· * ·) (congrArg (Ideal.liftRound Ideal.roundHalfEven) ?_) bits_inv23
      rw [mulf_apply]
      refine congrArg₂ (· * ·) ?_ bits_23
      rw [addf_apply]
      refine congrArg₂ (· + ·) bits_one ?_
      rw [subf_apply, h4, h5]
    unfold rowW rp
    rw [mulf_apply]
    refine congrArg₂ (· * ·) ?_ (congrArg Ideal.exp2 h5)
    rw [maximumf_apply]
    exact congrArg₂ max h6 Ideal.ofBits_zero_f32
  · exact Ideal.ofBits_zero_f32

/-- The sum of the weights. -/
theorem pay8_apply : k0_pay8 k0_pay2 (k0_pay5 x0 x1 x3 x4) (k0_pay6 x0 x1 x3 x4) (Scalar.ofBits (F := Ideal) .f32 0x00000000#32) (ix3 N t (0 : Fin 1))
    = rowL a t := by
  unfold k0_pay8
  refine (as_col _ N t).trans ((Ideal.multiReduction_add_single _ _ _ _ _ (ix2 N t)).trans ?_)
  unfold rowL
  rw [← sum_masked _ t.val 896 t.isLt, ← Fin.sum_univ_eq_sum_range]
  refine Finset.sum_congr rfl fun (j : Fin 896) _ => ?_
  rw [lift_key]
  exact pay7_apply x0 x1 x3 x4 N t a ha j

/-- The output. -/
theorem pay9_apply (d : Fin 160) : k0_pay9 k0_pay2 (k0_pay5 x0 x1 x3 x4) (k0_pay6 x0 x1 x3 x4) (Scalar.ofBits (F := Ideal) .f32 0x00000000#32) x2 x5 (ix3 N t d)
    = rowO a t (fun j => x2 (ix3 N (key j) d)) (x5 (ix3 N (0 : Fin 1) (0 : Fin 1))) := by
  unfold k0_pay9
  simp only [shapeCast_self, matmul]
  unfold rowO
  show Ideal.div _ _ = Ideal.div _ _
  refine congrArg₂ Ideal.div ?_ ((col_chan _ N t d).trans (pay8_apply x0 x1 x3 x4 N t a ha))
  rw [mulf_apply, one_chan]
  refine congrArg (· * x5 (ix3 N (0 : Fin 1) (0 : Fin 1))) ?_
  rw [subf_apply]
  refine Eq.trans (congrArg₂ (· - ·) Ideal.ofBits_zero_f32 (dot_pv _ _ _ N t d)) ?_
  rw [show (constant S48x896x160 .f32 0x00000000#32 : FVec Ideal S48x896x160 .f32) (ix3 N t d) = 0 from Ideal.ofBits_zero_f32, zero_add, zero_sub]
  refine congrArg (- ·) ?_
  unfold rowA
  rw [← sum_masked _ t.val 896 t.isLt, ← Fin.sum_univ_eq_sum_range]
  refine Finset.sum_congr rfl fun (j : Fin 896) _ => ?_
  have hp : (Ideal.ofBits .f32 0x00000000#32 - k0_pay7 k0_pay2 (k0_pay5 x0 x1 x3 x4) (k0_pay6 x0 x1 x3 x4) (Scalar.ofBits (F := Ideal) .f32 0x00000000#32) (ix3 N t j))
      = if j.val ≤ t.val then -rowW a t j.val else 0 := by
    rw [pay7_apply x0 x1 x3 x4 N t a ha j, Ideal.ofBits_zero_f32, zero_sub]
    split_ifs
    · rfl
    · exact neg_zero
  refine Eq.trans (congrArg (· * x2 (ix3 N j d)) hp) ?_
  simp only [key_val]
  split_ifs
  · rfl
  · exact zero_mul _

/-- The logarithm. -/
theorem pay10_apply : k0_pay10 k0_pay2 (k0_pay3 x0 x1 x3 x4) (k0_pay5 x0 x1 x3 x4) (k0_pay6 x0 x1 x3 x4) (Scalar.ofBits (F := Ideal) .f32 0x00000000#32) (ix3 N t (0 : Fin 1))
    = rowLse a t (((t.val + 1 : ℕ) : ℝ) : EReal) := by
  unfold k0_pay10 rowLse ln2
  rw [subf_apply, addf_apply, pay3_apply x0 x1 x3 x4 N t a ha]
  refine congrArg₂ (· - ·) (congrArg (rowM a t + ·) ?_) ?_
  · show Ideal.div _ _ = Ideal.div _ _
    exact congrArg₂ Ideal.div (congrArg Ideal.log (pay8_apply x0 x1 x3 x4 N t a ha)) rfl
  · show Ideal.div (Ideal.log (sitofp (F := Ideal) .f32 (addi (iota .tc S48x896x1 32 [1] iota_S48x896x1_d1_w32) (broadcast S48x896x1 1#32)) (ix3 N t (0 : Fin 1))))
      (Ideal.log (Ideal.ofBits .f32 0x40000000#32)) = _
    refine congrArg (fun z => Ideal.div (Ideal.log z) (Ideal.log (Ideal.ofBits .f32 0x40000000#32))) ?_
    show (((iota .tc S48x896x1 32 [1] iota_S48x896x1_d1_w32 (ix3 N t (0 : Fin 1)) + 1#32).toInt : ℝ) : EReal) = _
    rw [iota_single_apply]
    have ht := t.isLt
    have : (BitVec.ofNat 32 t.val + 1#32).toInt = ((t.val + 1 : ℕ) : ℤ) := by
      rw [← BitVec.ofNat_add, BitVec.toInt_ofNat']
      simp only [Int.bmod_def]
      omega
    refine Eq.trans (congrArg (fun z : ℤ => ((z : ℝ) : EReal)) this) ?_
    norm_cast

end

end Cert.ReferenceIdeal.Gen

end
-- ==== Proof.RefArr.lean ====
module

public import proofs.«01_k».proof.Proof.RefVal
public import Idealize.ShloMosaic.Lib.ValueIdxRank6

/-! The reference's two results, element by element: what its host operations hand its body, and what they make of the
body's two arrays. -/

@[expose] public section

noncomputable section

namespace Cert.ReferenceIdeal.Gen

open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (c : Dev nD)

/-- The queries. -/
def aq : (⟨4, ![2, 896, 24, 160]⟩ : Shape).Idx → EReal := m ((c.tc : Thread nD τ).loc main_arg0)
/-- The query scales. -/
def aqs : (⟨3, ![2, 7, 24]⟩ : Shape).Idx → EReal := m ((c.tc : Thread nD τ).loc main_arg1)
/-- The keys. -/
def ak : (⟨4, ![2, 896, 8, 160]⟩ : Shape).Idx → EReal := m ((c.tc : Thread nD τ).loc main_arg2)
/-- The key scales. -/
def aks : (⟨3, ![2, 7, 8]⟩ : Shape).Idx → EReal := m ((c.tc : Thread nD τ).loc main_arg3)
/-- The values. -/
def av : (⟨4, ![2, 896, 8, 160]⟩ : Shape).Idx → EReal := m ((c.tc : Thread nD τ).loc main_arg4)
/-- The value scales. -/
def avs : (⟨2, ![2, 8]⟩ : Shape).Idx → EReal := m ((c.tc : Thread nD τ).loc main_arg5)

/-- What the body receives is what the operations before it leave. -/
theorem V_eq (b : Ref sig .tc) : V m c b = StableHlo.after hostOps0 (fun b => m (c, b)) (Proc.devRef .tc b) := rfl

/-- The row of a batch and a head. -/
def row (b : Fin 2) (h : Fin 24) : Fin 48 := ⟨b.val * 24 + h.val, by omega⟩

section
variable (b : Fin 2) (h : Fin 24)

/-- A head's place inside its group. -/
def rem3 : Fin 3 := ⟨h.val % 3, by omega⟩

theorem grp_val : (grp h).val = h.val / 3 := rfl

/-- The queries as the body receives them. -/
theorem V_q (t : Fin 896) (d : Fin 160) : V m c main_v1 (ix3 (row b h) t d) = aq m c (ix4 b t h d) := by
  refine (congrFun (V_eq m c main_v1) _).trans ?_
  after_results
  refine (shapeCast_apply _ _ (ix3 (row b h) t d) (ix4 b h t d) ?_).trans ?_
  · refine (Shape.rowMajor_val_four _).trans (Eq.trans ?_ (Shape.rowMajor_val_three _).symm)
    rfl
  exact (transpose_apply _ _ _ _ (ix4 b t h d) (by intro a; fin_cases a <;> rfl)).trans rfl

/-- The keys as the body receives them. -/
theorem V_k (t : Fin 896) (d : Fin 160) : V m c main_v5 (ix3 (row b h) t d) = ak m c (ix4 b t (grp h) d) := by
  refine (congrFun (V_eq m c main_v5) _).trans ?_
  after_results
  refine (shapeCast_apply _ _ (ix3 (row b h) t d) (ix4 b h t d) ?_).trans ?_
  · refine (Shape.rowMajor_val_four _).trans (Eq.trans ?_ (Shape.rowMajor_val_three _).symm)
    rfl
  refine (transpose_apply _ _ _ _ (ix4 b t h d) (by intro a; fin_cases a <;> rfl)).trans ?_
  refine (shapeCast_apply _ _ (ix4 b t h d) (ix5 b t (grp h) (rem3 h) d) ?_).trans ?_
  · refine (Shape.rowMajor_val_five _).trans (Eq.trans ?_ (Shape.rowMajor_val_four _).symm)
    show (((b.val * 896 + t.val) * 8 + h.val / 3) * 3 + h.val % 3) * 160 + d.val = ((b.val * 896 + t.val) * 24 + h.val) * 160 + d.val
    omega
  exact (broadcastInDim_apply _ _ _ _ (ix4 b t (grp h) d) (by intro a; fin_cases a <;> rfl)).trans rfl

/-- The values as the body receives them. -/
theorem V_v (t : Fin 896) (d : Fin 160) : V m c main_v9 (ix3 (row b h) t d) = av m c (ix4 b t (grp h) d) := by
  refine (congrFun (V_eq m c main_v9) _).trans ?_
  after_results
  refine (shapeCast_apply _ _ (ix3 (row b h) t d) (ix4 b h t d) ?_).trans ?_
  · refine (Shape.rowMajor_val_four _).trans (Eq.trans ?_ (Shape.rowMajor_val_three _).symm)
    rfl
  refine (transpose_apply _ _ _ _ (ix4 b t h d) (by intro a; fin_cases a <;> rfl)).trans ?_
  refine (shapeCast_apply _ _ (ix4 b t h d) (ix5 b t (grp h) (rem3 h) d) ?_).trans ?_
  · refine (Shape.rowMajor_val_five _).trans (Eq.trans ?_ (Shape.rowMajor_val_four _).symm)
    show (((b.val * 896 + t.val) * 8 + h.val / 3) * 3 + h.val % 3) * 160 + d.val = ((b.val * 896 + t.val) * 24 + h.val) * 160 + d.val
    omega
  exact (broadcastInDim_apply _ _ _ _ (ix4 b t (grp h) d) (by intro a; fin_cases a <;> rfl)).trans rfl

theorem blkOf_val (t : Fin 896) : (blkOf t).val = t.val / 128 := by
  show t.val / 128 % 7 = t.val / 128
  omega

/-- The query scales as the body receives them. -/
theorem V_qs (t : Fin 896) : V m c main_v13 (ix3 (row b h) t (0 : Fin 1)) = aqs m c (ix3 b (blkOf t) h) := by
  refine (congrFun (V_eq m c main_v13) _).trans ?_
  after_results
  refine (shapeCast_apply _ _ (ix3 (row b h) t (0 : Fin 1)) (ix3 b h t) ?_).trans ?_
  · refine (Shape.rowMajor_val_three _).trans (Eq.trans ?_ (Shape.rowMajor_val_three _).symm)
    show (b.val * 24 + h.val) * 896 + t.val = ((b.val * 24 + h.val) * 896 + t.val) * 1 + 0
    omega
  refine (transpose_apply _ _ _ _ (ix3 b t h) (by intro a; fin_cases a <;> rfl)).trans ?_
  refine (shapeCast_apply _ _ (ix3 b t h) (ix4 b (blkOf t) (⟨t.val % 128, by omega⟩ : Fin 128) h) ?_).trans ?_
  · refine (Shape.rowMajor_val_four _).trans (Eq.trans ?_ (Shape.rowMajor_val_three _).symm)
    show ((b.val * 7 + (blkOf t).val) * 128 + t.val % 128) * 24 + h.val = (b.val * 896 + t.val) * 24 + h.val
    rw [blkOf_val]
    omega
  exact (broadcastInDim_apply _ _ _ _ (ix3 b (blkOf t) h) (by intro a; fin_cases a <;> rfl)).trans rfl

/-- The key scales as the body receives them. -/
theorem V_ks (t : Fin 896) : V m c main_v19 (ix3 (row b h) (0 : Fin 1) t) = aks m c (ix3 b (blkOf t) (grp h)) := by
  refine (congrFun (V_eq m c main_v19) _).trans ?_
  after_results
  refine (shapeCast_apply _ _ (ix3 (row b h) (0 : Fin 1) t) (ix3 b h t) ?_).trans ?_
  · refine (Shape.rowMajor_val_three _).trans (Eq.trans ?_ (Shape.rowMajor_val_three _).symm)
    show (b.val * 24 + h.val) * 896 + t.val = ((b.val * 24 + h.val) * 1 + 0) * 896 + t.val
    omega
  refine (transpose_apply _ _ _ _ (ix3 b t h) (by intro a; fin_cases a <;> rfl)).trans ?_
  refine (shapeCast_apply _ _ (ix3 b t h) (ix4 b t (grp h) (rem3 h)) ?_).trans ?_
  · refine (Shape.rowMajor_val_four _).trans (Eq.trans ?_ (Shape.rowMajor_val_three _).symm)
    show ((b.val * 896 + t.val) * 8 + h.val / 3) * 3 + h.val % 3 = (b.val * 896 + t.val) * 24 + h.val
    omega
  refine (broadcastInDim_apply _ _ _ _ (ix3 b t (grp h)) (by intro a; fin_cases a <;> rfl)).trans ?_
  refine (shapeCast_apply _ _ (ix3 b t (grp h)) (ix4 b (blkOf t) (⟨t.val % 128, by omega⟩ : Fin 128) (grp h)) ?_).trans ?_
  · refine (Shape.rowMajor_val_four _).trans (Eq.trans ?_ (Shape.rowMajor_val_three _).symm)
    show ((b.val * 7 + (blkOf t).val) * 128 + t.val % 128) * 8 + h.val / 3 = (b.val * 896 + t.val) * 8 + h.val / 3
    rw [blkOf_val]
    omega
  exact (broadcastInDim_apply _ _ _ _ (ix3 b (blkOf t) (grp h)) (by intro a; fin_cases a <;> rfl)).trans rfl

/-- The value scales as the body receives them. -/
theorem V_vs : V m c main_v22 (ix3 (row b h) (0 : Fin 1) (0 : Fin 1)) = avs m c (ix2 b (grp h)) := by
  refine (congrFun (V_eq m c main_v22) _).trans ?_
  after_results
  refine (shapeCast_apply _ _ (ix3 (row b h) (0 : Fin 1) (0 : Fin 1)) (ix2 b h) ?_).trans ?_
  · refine (Shape.rowMajor_val_two _).trans (Eq.trans ?_ (Shape.rowMajor_val_three _).symm)
    show b.val * 24 + h.val = ((b.val * 24 + h.val) * 1 + 0) * 1 + 0
    omega
  refine (shapeCast_apply _ _ (ix2 b h) (ix3 b (grp h) (rem3 h)) ?_).trans ?_
  · refine (Shape.rowMajor_val_three _).trans (Eq.trans ?_ (Shape.rowMajor_val_two _).symm)
    show (b.val * 8 + h.val / 3) * 3 + h.val % 3 = b.val * 24 + h.val
    omega
  exact (broadcastInDim_apply _ _ _ _ (ix2 b (grp h)) (by intro a; fin_cases a <;> rfl)).trans rfl

end

/-! ## The windows are the whole arrays -/

/-- The one point. -/
def pt : Fin cfg0.N := ⟨0, by decide⟩

theorem iblk0 : iblk m c 0 pt = V m c main_v1 :=
  funext fun _ => congrArg (V m c main_v1) (funext fun a => Fin.ext (win0_0.rect_emb_val_of_index_zero pt a rfl _))
theorem iblk1 : iblk m c 1 pt = V m c main_v5 :=
  funext fun _ => congrArg (V m c main_v5) (funext fun a => Fin.ext (win0_1.rect_emb_val_of_index_zero pt a rfl _))
theorem iblk2 : iblk m c 2 pt = V m c main_v9 :=
  funext fun _ => congrArg (V m c main_v9) (funext fun a => Fin.ext (win0_2.rect_emb_val_of_index_zero pt a rfl _))
theorem iblk3 : iblk m c 3 pt = V m c main_v13 :=
  funext fun _ => congrArg (V m c main_v13) (funext fun a => Fin.ext (win0_3.rect_emb_val_of_index_zero pt a rfl _))
theorem iblk4 : iblk m c 4 pt = V m c main_v19 :=
  funext fun _ => congrArg (V m c main_v19) (funext fun a => Fin.ext (win0_4.rect_emb_val_of_index_zero pt a rfl _))
theorem iblk5 : iblk m c 5 pt = V m c main_v22 :=
  funext fun _ => congrArg (V m c main_v22) (funext fun a => Fin.ext (win0_5.rect_emb_val_of_index_zero pt a rfl _))

theorem N_eq : ∀ t t' : Fin cfg0.N, t = t' := (by decide +kernel : ∀ t t' : Fin grid0.N, t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => absurd (N_eq t t') hne

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => absurd (N_eq t t') hne

theorem ld0 (X : Vec Ideal S48x896x160 .fp8e4m3) : View.ld (Val := Elt Ideal) X r0_0 = X :=
  View.ld_unit_zero (S := S48x896x160) (by decide) _ X
theorem ld1 (X : Vec Ideal S48x896x1 .f32) : View.ld (Val := Elt Ideal) X r0_1 = X :=
  View.ld_unit_zero (S := S48x896x1) (by decide) _ X
theorem ld2 (X : Vec Ideal S48x1x896 .f32) : View.ld (Val := Elt Ideal) X r0_2 = X :=
  View.ld_unit_zero (S := S48x1x896) (by decide) _ X
theorem ld3 (X : Vec Ideal S48x1x1 .f32) : View.ld (Val := Elt Ideal) X r0_3 = X :=
  View.ld_unit_zero (S := S48x1x1) (by decide) _ X

/-- The output array after the run is what the body left. -/
theorem arr6 (i : S48x896x160.Idx) : (dats m 0 c).arrAt 6 cfg0.N i
    = out0_6 (V m c main_v1) (V m c main_v5) (V m c main_v9) (V m c main_v13) (V m c main_v19) (V m c main_v22) i := by
  have h := congrFun ((dats m 0 c).read_blk_arrAt_eq_flushed 6 disjoint6 cfg0.N pt pt.isLt (flush0_6 pt)) i
  have hf : (dats m 0 c).flushed 6 pt = out0_6 (V m c main_v1) (V m c main_v5) (V m c main_v9) (V m c main_v13) (V m c main_v19) (V m c main_v22) := by
    refine Eq.trans (b := (dats m 0 c).after 6 pt) rfl ?_
    rw [after0_6, iblk0, iblk1, iblk2, iblk3, iblk4, iblk5]
  rw [hf] at h
  refine Eq.trans (congrArg ((dats m 0 c).arrAt 6 cfg0.N) ?_) h
  exact (funext fun a => Fin.ext (win0_6.rect_emb_val_of_index_zero pt a rfl _)).symm

/-- The array of logarithms after the run is what the body left. -/
theorem arr7 (i : S48x896x1.Idx) : (dats m 0 c).arrAt 7 cfg0.N i
    = out0_7 (V m c main_v1) (V m c main_v5) (V m c main_v9) (V m c main_v13) (V m c main_v19) (V m c main_v22) i := by
  have h := congrFun ((dats m 0 c).read_blk_arrAt_eq_flushed 7 disjoint7 cfg0.N pt pt.isLt (flush0_7 pt)) i
  have hf : (dats m 0 c).flushed 7 pt = out0_7 (V m c main_v1) (V m c main_v5) (V m c main_v9) (V m c main_v13) (V m c main_v19) (V m c main_v22) := by
    refine Eq.trans (b := (dats m 0 c).after 7 pt) rfl ?_
    rw [after0_7, iblk0, iblk1, iblk2, iblk3, iblk4, iblk5]
  rw [hf] at h
  refine Eq.trans (congrArg ((dats m 0 c).arrAt 7 cfg0.N) ?_) h
  exact (funext fun a => Fin.ext (win0_7.rect_emb_val_of_index_zero pt a rfl _)).symm

section
variable (b : Fin 2) (t : Fin 896) (h : Fin 24)

/-- The body's scores are the scores. -/
theorem scores (j : Fin 896) : k0_pay1 (V m c main_v1) (V m c main_v5) (V m c main_v13) (V m c main_v19) (ix3 (row b h) t j)
    = score (aq m c) (aqs m c) (ak m c) (aks m c) b t h j.val := by
  refine (pay1_apply (V m c main_v1) (V m c main_v5) (V m c main_v13) (V m c main_v19) (row b h) t j).trans ?_
  unfold score
  rw [V_qs, V_ks, key_val, mul_assoc, mul_assoc, ← mul_assoc (aqs m c _)]
  refine congrArg₂ (· * ·) (Finset.sum_congr rfl fun d _ => ?_) rfl
  rw [V_q, V_k, mul_comm]

/-- The body's output. -/
theorem arr6_eq (d : Fin 160) : (dats m 0 c).arrAt 6 cfg0.N (ix3 (row b h) t d)
    = outVal (aq m c) (aqs m c) (ak m c) (aks m c) (av m c) (avs m c) b t h d := by
  have hz : (![0, 0, 0] : Fin 3 → ℕ) = fun _ => 0 := by decide
  rw [arr6]
  unfold_out out0_6
  rw [View.canon_unit_zero hz]
  rw [ld0, ld0, ld0, ld1, ld2, ld3]
  refine (pay9_apply (V m c main_v1) (V m c main_v5) (V m c main_v9) (V m c main_v13) (V m c main_v19) (V m c main_v22) (row b h) t _
    (scores m c b t h) d).trans ?_
  unfold outVal
  rw [V_vs]
  exact congrArg (fun f => rowO _ _ f _) (funext fun j => V_v m c b h (key j) d)

/-- The body's logarithm. -/
theorem arr7_eq : (dats m 0 c).arrAt 7 cfg0.N (ix3 (row b h) t (0 : Fin 1))
    = lseVal (aq m c) (aqs m c) (ak m c) (aks m c) b t h := by
  have hz : (![0, 0, 0] : Fin 3 → ℕ) = fun _ => 0 := by decide
  rw [arr7]
  unfold_out out0_7
  rw [View.canon_unit_zero hz]
  rw [ld0, ld0, ld1, ld2]
  exact pay10_apply (V m c main_v1) (V m c main_v5) (V m c main_v13) (V m c main_v19) (row b h) t _ (scores m c b t h)

/-! ## The results -/

/-- What the host program's buffers hold at the end. -/
def fin (b : Ref sig .tc) : Buf (Elt Ideal) ((c.tc : Thread nD τ).loc b) :=
  Pipeline.afterTail₀ cfgs (dats m) 0 (V0 m) [hostOps1] c b

/-- What the buffers hold right after the body. -/
abbrev mid : Valuation τ sig (Elt Ideal) :=
  Pipeline.withArrays cfg0.spec c (V0 m c) (fun w => (dats m 0 c).arrAt w cfg0.N)

/-- What they hold at the end is what the last host operations make of it. -/
theorem fin_eq (b : Ref sig .tc) : fin m c b = StableHlo.after hostOps1 (mid m c) (Proc.devRef .tc b) := rfl

theorem arrRef_inj : Function.Injective (Pipeline.arrRef cfg0.spec) := by decide

/-- The output array as the body leaves it. -/
theorem mid6 : mid m c (Proc.devRef .tc main_v23_0) = (dats m 0 c).arrAt 6 cfg0.N :=
  Pipeline.withArrays_arr cfg0.spec arrRef_inj c (V0 m c) (fun w => (dats m 0 c).arrAt w cfg0.N) 6

/-- The array of logarithms as the body leaves it. -/
theorem mid7 : mid m c (Proc.devRef .tc main_v23_1) = (dats m 0 c).arrAt 7 cfg0.N :=
  Pipeline.withArrays_arr cfg0.spec arrRef_inj c (V0 m c) (fun w => (dats m 0 c).arrAt w cfg0.N) 7

/-- The reference's first result is the attention output. -/
theorem out_eq (d : Fin 160) : fin m c main_v25 (ix4 b t h d)
    = outVal (aq m c) (aqs m c) (ak m c) (aks m c) (av m c) (avs m c) b t h d := by
  refine Eq.trans ?_ (arr6_eq m c b t h d)
  refine (congrFun (fin_eq m c main_v25) _).trans ?_
  after_results
  refine Eq.trans ?_ (congrFun (mid6 m c) _)
  refine (transpose_apply _ _ _ _ (ix4 b h t d) (by intro a; fin_cases a <;> rfl)).trans ?_
  refine (shapeCast_apply _ _ (ix4 b h t d) (ix3 (row b h) t d) ?_).trans rfl
  refine (Shape.rowMajor_val_three _).trans (Eq.trans ?_ (Shape.rowMajor_val_four _).symm)
  rfl

/-- The reference's second result is the scores' logarithm. -/
theorem lse_eq : fin m c main_v27 (ix3 b t h) = lseVal (aq m c) (aqs m c) (ak m c) (aks m c) b t h := by
  refine Eq.trans ?_ (arr7_eq m c b t h)
  refine (congrFun (fin_eq m c main_v27) _).trans ?_
  after_results
  refine Eq.trans ?_ (congrFun (mid7 m c) _)
  refine (transpose_apply _ _ _ _ (ix3 b h t) (by intro a; fin_cases a <;> rfl)).trans ?_
  refine (shapeCast_apply _ _ (ix3 b h t) (ix3 (row b h) t (0 : Fin 1)) ?_).trans rfl
  refine (Shape.rowMajor_val_three _).trans (Eq.trans ?_ (Shape.rowMajor_val_three _).symm)
  show ((b.val * 24 + h.val) * 896 + t.val) * 1 + 0 = (b.val * 24 + h.val) * 896 + t.val
  omega

end

end Cert.ReferenceIdeal.Gen

end
-- ==== Proof.Algebraic.lean ====
module

public import proofs.«01_k».proof.Defs
public import proofs.«01_k».proof.Proof.KernelRes
public import proofs.«01_k».proof.Proof.RefArr
public import proofs.«01_k».proof.Proof.Gen.Pre_precondition
public import Idealize.ShloMosaic.Lib.ReduceAll
public import Idealize.ShloMosaic.Lib.WordCmp

/-! The kernel and the reference give the same two results in exact arithmetic. -/

@[expose] public section

noncomputable section

namespace Cert.Attn

open Idealize.ShloMosaic Idealize.ShloMosaic.TcCoe Idealize.SL.Sem Idealize.ShloMosaic.ValueIdx
open Idealize.ShloMosaic.Pipeline (mem_restRefs_of)

/-! ## The precondition says that the scales are positive -/

/-- A comparison with zero that holds says that the number is positive. -/
theorem pos_of_cmp (x : EReal) (h : Ideal.cmp .ogt x (Ideal.ofBits .f32 0x00000000#32) = 1#1) : 0 < x := by
  unfold Ideal.cmp at h
  rw [Ideal.ofBits_zero_f32, WordCmp.ofBool_eq_one_iff] at h
  exact of_decide_eq_true h

/-- Both of two bits are set when their conjunction is. -/
theorem and_one : ∀ a b : BitVec 1, a &&& b = 1#1 → a = 1#1 ∧ b = 1#1 := by decide

/-- The precondition, read: all query scales and all key scales are positive. -/
theorem pre_pos [Cert.Pre_precondition.Facts] (m : (ℓ : Loc Cert.KernelIdeal.nD Cert.KernelIdeal.τ Cert.KernelIdeal.sig) → Buf (Elt Ideal) ℓ)
    (h : Pre_KernelIdeal_precondition m) (c : Dev Cert.KernelIdeal.nD) :
    (∀ i, 0 < Cert.KernelIdeal.Gen.aqs m c i) ∧ (∀ i, 0 < Cert.KernelIdeal.Gen.aks m c i) := by
  have hc := congrFun (h c) (fun a => a.elim0)
  unfold Cert.Pre_precondition.fn at hc
  obtain ⟨h1, h2⟩ := and_one _ _ hc
  have : Subsingleton Cert.Pre_precondition.S_.Idx := ⟨fun a b => funext fun x => x.elim0⟩
  exact ⟨fun i => pos_of_cmp _ (Host.reduce_andi_all _ _ _ _ _ h1 i), fun i => pos_of_cmp _ (Host.reduce_andi_all _ _ _ _ _ h2 i)⟩

/-! ## The two runs -/

/-- How the kernel's program ends. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v14) = Cert.KernelIdeal.Gen.fin m c Cert.KernelIdeal.main_v14
      ∧ r.2.mem ((c.tc : Thread Cert.KernelIdeal.nD Cert.KernelIdeal.τ).loc Cert.KernelIdeal.main_v17) = Cert.KernelIdeal.Gen.fin m c Cert.KernelIdeal.main_v17
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun _ h c =>
    ⟨(h c).2 Cert.KernelIdeal.main_v14 (mem_restRefs_of Cert.KernelIdeal.main_v14 (by decide) (by decide)),
     (h c).2 Cert.KernelIdeal.main_v17 (mem_restRefs_of Cert.KernelIdeal.main_v17 (by decide) (by decide)),
     ((h c).2 Cert.KernelIdeal.main_arg0 (mem_restRefs_of Cert.KernelIdeal.main_arg0 (by decide) (by decide))).trans (Cert.KernelIdeal.Gen.W_main_arg0 m _ c),
     ((h c).2 Cert.KernelIdeal.main_arg1 (mem_restRefs_of Cert.KernelIdeal.main_arg1 (by decide) (by decide))).trans (Cert.KernelIdeal.Gen.W_main_arg1 m _ c),
     ((h c).2 Cert.KernelIdeal.main_arg2 (mem_restRefs_of Cert.KernelIdeal.main_arg2 (by decide) (by decide))).trans (Cert.KernelIdeal.Gen.W_main_arg2 m _ c),
     ((h c).2 Cert.KernelIdeal.main_arg3 (mem_restRefs_of Cert.KernelIdeal.main_arg3 (by decide) (by decide))).trans (Cert.KernelIdeal.Gen.W_main_arg3 m _ c),
     ((h c).2 Cert.KernelIdeal.main_arg4 (mem_restRefs_of Cert.KernelIdeal.main_arg4 (by decide) (by decide))).trans (Cert.KernelIdeal.Gen.W_main_arg4 m _ c),
     ((h c).1 5).trans (((Cert.KernelIdeal.Gen.dats m 0 c).arrAt_in 5 rfl _).trans ((Cert.KernelIdeal.Gen.A_eq m c 5).trans (Cert.KernelIdeal.Gen.V_main_arg5 m c)))⟩)
    (Cert.KernelIdeal.Gen.run_main m g)

/-- How the reference ends. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v25) = Cert.ReferenceIdeal.Gen.fin m c Cert.ReferenceIdeal.main_v25
      ∧ r.2.mem ((c.tc : Thread Cert.ReferenceIdeal.nD Cert.ReferenceIdeal.τ).loc Cert.ReferenceIdeal.main_v27) = Cert.ReferenceIdeal.Gen.fin m c Cert.ReferenceIdeal.main_v27
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run _ _ _).mono (fun _ h c =>
    ⟨(h c).2 Cert.ReferenceIdeal.main_v25 (mem_restRefs_of Cert.ReferenceIdeal.main_v25 (by decide) (by decide)),
     (h c).2 Cert.ReferenceIdeal.main_v27 (mem_restRefs_of Cert.ReferenceIdeal.main_v27 (by decide) (by decide)),
     ((h c).2 Cert.ReferenceIdeal.main_arg0 (mem_restRefs_of Cert.ReferenceIdeal.main_arg0 (by decide) (by decide))).trans (Cert.ReferenceIdeal.Gen.W_main_arg0 m _ c),
     ((h c).2 Cert.ReferenceIdeal.main_arg1 (mem_restRefs_of Cert.ReferenceIdeal.main_arg1 (by decide) (by decide))).trans (Cert.ReferenceIdeal.Gen.W_main_arg1 m _ c),
     ((h c).2 Cert.ReferenceIdeal.main_arg2 (mem_restRefs_of Cert.ReferenceIdeal.main_arg2 (by decide) (by decide))).trans (Cert.ReferenceIdeal.Gen.W_main_arg2 m _ c),
     ((h c).2 Cert.ReferenceIdeal.main_arg3 (mem_restRefs_of Cert.ReferenceIdeal.main_arg3 (by decide) (by decide))).trans (Cert.ReferenceIdeal.Gen.W_main_arg3 m _ c),
     ((h c).2 Cert.ReferenceIdeal.main_arg4 (mem_restRefs_of Cert.ReferenceIdeal.main_arg4 (by decide) (by decide))).trans (Cert.ReferenceIdeal.Gen.W_main_arg4 m _ c),
     ((h c).2 Cert.ReferenceIdeal.main_arg5 (mem_restRefs_of Cert.ReferenceIdeal.main_arg5 (by decide) (by decide))).trans (Cert.ReferenceIdeal.Gen.W_main_arg5 m _ c)⟩)
    (Cert.ReferenceIdeal.Gen.run_main m g)

/-! ## The claim -/

section
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Gen.aq m' c = Cert.KernelIdeal.Gen.aq m c) (h1 : Cert.ReferenceIdeal.Gen.aqs m' c = Cert.KernelIdeal.Gen.aqs m c)
    (h2 : Cert.ReferenceIdeal.Gen.ak m' c = Cert.KernelIdeal.Gen.ak m c) (h3 : Cert.ReferenceIdeal.Gen.aks m' c = Cert.KernelIdeal.Gen.aks m c)
    (h4 : Cert.ReferenceIdeal.Gen.av m' c = Cert.KernelIdeal.Gen.av m c) (h5 : Cert.ReferenceIdeal.Gen.avs m' c = Cert.KernelIdeal.Gen.avs m c)
    (hq : ∀ i, 0 < Cert.KernelIdeal.Gen.aqs m c i) (hk : ∀ i, 0 < Cert.KernelIdeal.Gen.aks m c i)
include h0 h1 h2 h3 hq hk

include h4 h5 in
/-- From equal arguments both programs leave the same first result. -/
theorem same_out (i : (⟨4, ![2, 896, 24, 160]⟩ : Shape).Idx) : Cert.ReferenceIdeal.Gen.fin m' c Cert.ReferenceIdeal.main_v25 i = Cert.KernelIdeal.Gen.fin m c Cert.KernelIdeal.main_v14 i := by
  have hi : i = ix4 (i 0) (i 1) (i 2) (i 3) := by funext a; fin_cases a <;> rfl
  rw [hi]
  refine (Cert.ReferenceIdeal.Gen.out_eq m' c (i 0) (i 1) (i 2) (i 3)).trans ?_
  rw [h0, h1, h2, h3, h4, h5]
  exact (Cert.KernelIdeal.Gen.out_eq m c (i 0) (i 1) (i 2) hq hk (i 3)).symm

/-- From equal arguments both programs leave the same second result. -/
theorem same_lse (i : (⟨3, ![2, 896, 24]⟩ : Shape).Idx) : Cert.ReferenceIdeal.Gen.fin m' c Cert.ReferenceIdeal.main_v27 i = Cert.KernelIdeal.Gen.fin m c Cert.KernelIdeal.main_v17 i := by
  have hi : i = ix3 (i 0) (i 1) (i 2) := by funext a; fin_cases a <;> rfl
  rw [hi]
  refine (Cert.ReferenceIdeal.Gen.lse_eq m' c (i 0) (i 1) (i 2)).trans ?_
  rw [h0, h1, h2, h3]
  exact (Cert.KernelIdeal.Gen.lse_eq m c (i 0) (i 1) (i 2) hq hk).symm

end

/-- With positive scales, the kernel and the reference give the same two results. -/
theorem algebraic : Cert.algebraic_KernelIdeal_ReferenceIdeal_pre_precondition
    (hKernelIdeal := Cert.KernelIdeal.Gen.facts) (hReferenceIdeal := Cert.ReferenceIdeal.Gen.facts) (hPre_precondition := Cert.Pre_precondition.Gen.facts) := by
  intro m g m' g' hpre hargs
  have hp := pre_pos m hpre
  refine ⟨fun c => Cert.KernelIdeal.Gen.fin m c Cert.KernelIdeal.main_v14, fun c => Cert.KernelIdeal.Gen.fin m c Cert.KernelIdeal.main_v17,
    run_kernel m g, (θ_run _ _ _).mono (fun _ h c => ?_) (run_reference m' g')⟩
  obtain ⟨e0, e1, e2, e3, e4, e5⟩ := hargs c
  exact ⟨(h c).1.trans (funext fun i => same_out m m' c e0 e1 e2 e3 e4 e5 (hp c).1 (hp c).2 i),
    (h c).2.1.trans (funext fun i => same_lse m m' c e0 e1 e2 e3 (hp c).1 (hp c).2 i), (h c).2.2⟩

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_precondition
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_precondition.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Attn.algebraic⟩

end Cert.Proof

end
